-- ==== Defs.lean ====
def Pre_MmDx (m : (ℓ : Loc Cert.MmDx.nD Cert.MmDx.τ Cert.MmDx.sig) → Buf (Elt Bits) ℓ) : Prop :=
  True

def Pre_MmDxIdeal (m : (ℓ : Loc Cert.MmDxIdeal.nD Cert.MmDxIdeal.τ Cert.MmDxIdeal.sig) → Buf (Elt Ideal) ℓ) : Prop :=
  True

def Pre_MmDxRefIdeal (m : (ℓ : Loc Cert.MmDxRefIdeal.nD Cert.MmDxRefIdeal.τ Cert.MmDxRefIdeal.sig) → Buf (Elt Ideal) ℓ) : Prop :=
  True

def Pre_MmDw (m : (ℓ : Loc Cert.MmDw.nD Cert.MmDw.τ Cert.MmDw.sig) → Buf (Elt Bits) ℓ) : Prop :=
  True

def Pre_MmDwIdeal (m : (ℓ : Loc Cert.MmDwIdeal.nD Cert.MmDwIdeal.τ Cert.MmDwIdeal.sig) → Buf (Elt Ideal) ℓ) : Prop :=
  True

def Pre_MmDwRefIdeal (m : (ℓ : Loc Cert.MmDwRefIdeal.nD Cert.MmDwRefIdeal.τ Cert.MmDwRefIdeal.sig) → Buf (Elt Ideal) ℓ) : Prop :=
  True

def Pre_AmaxX (m : (ℓ : Loc Cert.AmaxX.nD Cert.AmaxX.τ Cert.AmaxX.sig) → Buf (Elt Bits) ℓ) : Prop :=
  True

def Pre_AmaxXIdeal (m : (ℓ : Loc Cert.AmaxXIdeal.nD Cert.AmaxXIdeal.τ Cert.AmaxXIdeal.sig) → Buf (Elt Ideal) ℓ) : Prop :=
  True

def Pre_AmaxXRefIdeal (m : (ℓ : Loc Cert.AmaxXRefIdeal.nD Cert.AmaxXRefIdeal.τ Cert.AmaxXRefIdeal.sig) → Buf (Elt Ideal) ℓ) : Prop :=
  True

def Pre_AmaxDy (m : (ℓ : Loc Cert.AmaxDy.nD Cert.AmaxDy.τ Cert.AmaxDy.sig) → Buf (Elt Bits) ℓ) : Prop :=
  True

def Pre_AmaxDyIdeal (m : (ℓ : Loc Cert.AmaxDyIdeal.nD Cert.AmaxDyIdeal.τ Cert.AmaxDyIdeal.sig) → Buf (Elt Ideal) ℓ) : Prop :=
  True

def Pre_AmaxDyRefIdeal (m : (ℓ : Loc Cert.AmaxDyRefIdeal.nD Cert.AmaxDyRefIdeal.τ Cert.AmaxDyRefIdeal.sig) → Buf (Elt Ideal) ℓ) : Prop :=
  True

def Pre_AmaxWIdeal (m : (ℓ : Loc Cert.AmaxWIdeal.nD Cert.AmaxWIdeal.τ Cert.AmaxWIdeal.sig) → Buf (Elt Ideal) ℓ) : Prop :=
  True

def Pre_AmaxWRefIdeal (m : (ℓ : Loc Cert.AmaxWRefIdeal.nD Cert.AmaxWRefIdeal.τ Cert.AmaxWRefIdeal.sig) → Buf (Elt Ideal) ℓ) : Prop :=
  True

def quiescent_MmDx [hMmDx : Cert.MmDx.Facts] : Prop :=
  ∀ (m : (ℓ : Loc Cert.MmDx.nD Cert.MmDx.τ Cert.MmDx.sig) → Buf (Elt Bits) ℓ) (g : Dev Cert.MmDx.nD → PrngReg), Pre_MmDx m →
    θ_run (Cert.MmDx.defs (F := Bits)) (onTc (τ := Cert.MmDx.τ) (Cert.MmDx.main (F := Bits))) ⟨m, fun _ => 0, g⟩ (fun r => (∀ c : Dev Cert.MmDx.nD,
      r.2.mem ((c.tc : Thread Cert.MmDx.nD Cert.MmDx.τ).loc Cert.MmDx.main_arg0) = m ((c.tc : Thread Cert.MmDx.nD Cert.MmDx.τ).loc Cert.MmDx.main_arg0)
      ∧ r.2.mem ((c.tc : Thread Cert.MmDx.nD Cert.MmDx.τ).loc Cert.MmDx.main_arg1) = m ((c.tc : Thread Cert.MmDx.nD Cert.MmDx.τ).loc Cert.MmDx.main_arg1)
      ∧ r.2.mem ((c.tc : Thread Cert.MmDx.nD Cert.MmDx.τ).loc Cert.MmDx.main_arg2) = m ((c.tc : Thread Cert.MmDx.nD Cert.MmDx.τ).loc Cert.MmDx.main_arg2)
      ∧ r.2.mem ((c.tc : Thread Cert.MmDx.nD Cert.MmDx.τ).loc Cert.MmDx.main_arg3) = m ((c.tc : Thread Cert.MmDx.nD Cert.MmDx.τ).loc Cert.MmDx.main_arg3))
      ∧ r.2.sem = fun _ => 0)

def quiescent_MmDxIdeal [hMmDxIdeal : Cert.MmDxIdeal.Facts] : Prop :=
  ∀ (m : (ℓ : Loc Cert.MmDxIdeal.nD Cert.MmDxIdeal.τ Cert.MmDxIdeal.sig) → Buf (Elt Ideal) ℓ) (g : Dev Cert.MmDxIdeal.nD → PrngReg), Pre_MmDxIdeal m →
    θ_run (Cert.MmDxIdeal.defs (F := Ideal)) (onTc (τ := Cert.MmDxIdeal.τ) (Cert.MmDxIdeal.main (F := Ideal))) ⟨m, fun _ => 0, g⟩ (fun r => (∀ c : Dev Cert.MmDxIdeal.nD,
      r.2.mem ((c.tc : Thread Cert.MmDxIdeal.nD Cert.MmDxIdeal.τ).loc Cert.MmDxIdeal.main_arg0) = m ((c.tc : Thread Cert.MmDxIdeal.nD Cert.MmDxIdeal.τ).loc Cert.MmDxIdeal.main_arg0)
      ∧ r.2.mem ((c.tc : Thread Cert.MmDxIdeal.nD Cert.MmDxIdeal.τ).loc Cert.MmDxIdeal.main_arg1) = m ((c.tc : Thread Cert.MmDxIdeal.nD Cert.MmDxIdeal.τ).loc Cert.MmDxIdeal.main_arg1)
      ∧ r.2.mem ((c.tc : Thread Cert.MmDxIdeal.nD Cert.MmDxIdeal.τ).loc Cert.MmDxIdeal.main_arg2) = m ((c.tc : Thread Cert.MmDxIdeal.nD Cert.MmDxIdeal.τ).loc Cert.MmDxIdeal.main_arg2)
      ∧ r.2.mem ((c.tc : Thread Cert.MmDxIdeal.nD Cert.MmDxIdeal.τ).loc Cert.MmDxIdeal.main_arg3) = m ((c.tc : Thread Cert.MmDxIdeal.nD Cert.MmDxIdeal.τ).loc Cert.MmDxIdeal.main_arg3))
      ∧ r.2.sem = fun _ => 0)

def quiescent_MmDxRefIdeal [hMmDxRefIdeal : Cert.MmDxRefIdeal.Facts] : Prop :=
  ∀ (m : (ℓ : Loc Cert.MmDxRefIdeal.nD Cert.MmDxRefIdeal.τ Cert.MmDxRefIdeal.sig) → Buf (Elt Ideal) ℓ) (g : Dev Cert.MmDxRefIdeal.nD → PrngReg), Pre_MmDxRefIdeal m →
    θ_run (Cert.MmDxRefIdeal.defs (F := Ideal)) (onTc (τ := Cert.MmDxRefIdeal.τ) (Cert.MmDxRefIdeal.main (F := Ideal))) ⟨m, fun _ => 0, g⟩ (fun r => (∀ c : Dev Cert.MmDxRefIdeal.nD,
      r.2.mem ((c.tc : Thread Cert.MmDxRefIdeal.nD Cert.MmDxRefIdeal.τ).loc Cert.MmDxRefIdeal.main_arg0) = m ((c.tc : Thread Cert.MmDxRefIdeal.nD Cert.MmDxRefIdeal.τ).loc Cert.MmDxRefIdeal.main_arg0)
      ∧ r.2.mem ((c.tc : Thread Cert.MmDxRefIdeal.nD Cert.MmDxRefIdeal.τ).loc Cert.MmDxRefIdeal.main_arg1) = m ((c.tc : Thread Cert.MmDxRefIdeal.nD Cert.MmDxRefIdeal.τ).loc Cert.MmDxRefIdeal.main_arg1)
      ∧ r.2.mem ((c.tc : Thread Cert.MmDxRefIdeal.nD Cert.MmDxRefIdeal.τ).loc Cert.MmDxRefIdeal.main_arg2) = m ((c.tc : Thread Cert.MmDxRefIdeal.nD Cert.MmDxRefIdeal.τ).loc Cert.MmDxRefIdeal.main_arg2)
      ∧ r.2.mem ((c.tc : Thread Cert.MmDxRefIdeal.nD Cert.MmDxRefIdeal.τ).loc Cert.MmDxRefIdeal.main_arg3) = m ((c.tc : Thread Cert.MmDxRefIdeal.nD Cert.MmDxRefIdeal.τ).loc Cert.MmDxRefIdeal.main_arg3))
      ∧ r.2.sem = fun _ => 0)

def quiescent_MmDw [hMmDw : Cert.MmDw.Facts] : Prop :=
  ∀ (m : (ℓ : Loc Cert.MmDw.nD Cert.MmDw.τ Cert.MmDw.sig) → Buf (Elt Bits) ℓ) (g : Dev Cert.MmDw.nD → PrngReg), Pre_MmDw m →
    θ_run (Cert.MmDw.defs (F := Bits)) (onTc (τ := Cert.MmDw.τ) (Cert.MmDw.main (F := Bits))) ⟨m, fun _ => 0, g⟩ (fun r => (∀ c : Dev Cert.MmDw.nD,
      r.2.mem ((c.tc : Thread Cert.MmDw.nD Cert.MmDw.τ).loc Cert.MmDw.main_arg0) = m ((c.tc : Thread Cert.MmDw.nD Cert.MmDw.τ).loc Cert.MmDw.main_arg0)
      ∧ r.2.mem ((c.tc : Thread Cert.MmDw.nD Cert.MmDw.τ).loc Cert.MmDw.main_arg1) = m ((c.tc : Thread Cert.MmDw.nD Cert.MmDw.τ).loc Cert.MmDw.main_arg1)
      ∧ r.2.mem ((c.tc : Thread Cert.MmDw.nD Cert.MmDw.τ).loc Cert.MmDw.main_arg2) = m ((c.tc : Thread Cert.MmDw.nD Cert.MmDw.τ).loc Cert.MmDw.main_arg2)
      ∧ r.2.mem ((c.tc : Thread Cert.MmDw.nD Cert.MmDw.τ).loc Cert.MmDw.main_arg3) = m ((c.tc : Thread Cert.MmDw.nD Cert.MmDw.τ).loc Cert.MmDw.main_arg3))
      ∧ r.2.sem = fun _ => 0)

def quiescent_MmDwIdeal [hMmDwIdeal : Cert.MmDwIdeal.Facts] : Prop :=
  ∀ (m : (ℓ : Loc Cert.MmDwIdeal.nD Cert.MmDwIdeal.τ Cert.MmDwIdeal.sig) → Buf (Elt Ideal) ℓ) (g : Dev Cert.MmDwIdeal.nD → PrngReg), Pre_MmDwIdeal m →
    θ_run (Cert.MmDwIdeal.defs (F := Ideal)) (onTc (τ := Cert.MmDwIdeal.τ) (Cert.MmDwIdeal.main (F := Ideal))) ⟨m, fun _ => 0, g⟩ (fun r => (∀ c : Dev Cert.MmDwIdeal.nD,
      r.2.mem ((c.tc : Thread Cert.MmDwIdeal.nD Cert.MmDwIdeal.τ).loc Cert.MmDwIdeal.main_arg0) = m ((c.tc : Thread Cert.MmDwIdeal.nD Cert.MmDwIdeal.τ).loc Cert.MmDwIdeal.main_arg0)
      ∧ r.2.mem ((c.tc : Thread Cert.MmDwIdeal.nD Cert.MmDwIdeal.τ).loc Cert.MmDwIdeal.main_arg1) = m ((c.tc : Thread Cert.MmDwIdeal.nD Cert.MmDwIdeal.τ).loc Cert.MmDwIdeal.main_arg1)
      ∧ r.2.mem ((c.tc : Thread Cert.MmDwIdeal.nD Cert.MmDwIdeal.τ).loc Cert.MmDwIdeal.main_arg2) = m ((c.tc : Thread Cert.MmDwIdeal.nD Cert.MmDwIdeal.τ).loc Cert.MmDwIdeal.main_arg2)
      ∧ r.2.mem ((c.tc : Thread Cert.MmDwIdeal.nD Cert.MmDwIdeal.τ).loc Cert.MmDwIdeal.main_arg3) = m ((c.tc : Thread Cert.MmDwIdeal.nD Cert.MmDwIdeal.τ).loc Cert.MmDwIdeal.main_arg3))
      ∧ r.2.sem = fun _ => 0)

def quiescent_MmDwRefIdeal [hMmDwRefIdeal : Cert.MmDwRefIdeal.Facts] : Prop :=
  ∀ (m : (ℓ : Loc Cert.MmDwRefIdeal.nD Cert.MmDwRefIdeal.τ Cert.MmDwRefIdeal.sig) → Buf (Elt Ideal) ℓ) (g : Dev Cert.MmDwRefIdeal.nD → PrngReg), Pre_MmDwRefIdeal m →
    θ_run (Cert.MmDwRefIdeal.defs (F := Ideal)) (onTc (τ := Cert.MmDwRefIdeal.τ) (Cert.MmDwRefIdeal.main (F := Ideal))) ⟨m, fun _ => 0, g⟩ (fun r => (∀ c : Dev Cert.MmDwRefIdeal.nD,
      r.2.mem ((c.tc : Thread Cert.MmDwRefIdeal.nD Cert.MmDwRefIdeal.τ).loc Cert.MmDwRefIdeal.main_arg0) = m ((c.tc : Thread Cert.MmDwRefIdeal.nD Cert.MmDwRefIdeal.τ).loc Cert.MmDwRefIdeal.main_arg0)
      ∧ r.2.mem ((c.tc : Thread Cert.MmDwRefIdeal.nD Cert.MmDwRefIdeal.τ).loc Cert.MmDwRefIdeal.main_arg1) = m ((c.tc : Thread Cert.MmDwRefIdeal.nD Cert.MmDwRefIdeal.τ).loc Cert.MmDwRefIdeal.main_arg1)
      ∧ r.2.mem ((c.tc : Thread Cert.MmDwRefIdeal.nD Cert.MmDwRefIdeal.τ).loc Cert.MmDwRefIdeal.main_arg2) = m ((c.tc : Thread Cert.MmDwRefIdeal.nD Cert.MmDwRefIdeal.τ).loc Cert.MmDwRefIdeal.main_arg2)
      ∧ r.2.mem ((c.tc : Thread Cert.MmDwRefIdeal.nD Cert.MmDwRefIdeal.τ).loc Cert.MmDwRefIdeal.main_arg3) = m ((c.tc : Thread Cert.MmDwRefIdeal.nD Cert.MmDwRefIdeal.τ).loc Cert.MmDwRefIdeal.main_arg3))
      ∧ r.2.sem = fun _ => 0)

def quiescent_AmaxX [hAmaxX : Cert.AmaxX.Facts] : Prop :=
  ∀ (m : (ℓ : Loc Cert.AmaxX.nD Cert.AmaxX.τ Cert.AmaxX.sig) → Buf (Elt Bits) ℓ) (g : Dev Cert.AmaxX.nD → PrngReg), Pre_AmaxX m →
    θ_run (Cert.AmaxX.defs (F := Bits)) (onTc (τ := Cert.AmaxX.τ) (Cert.AmaxX.main (F := Bits))) ⟨m, fun _ => 0, g⟩ (fun r => (∀ c : Dev Cert.AmaxX.nD,
      r.2.mem ((c.tc : Thread Cert.AmaxX.nD Cert.AmaxX.τ).loc Cert.AmaxX.main_arg0) = m ((c.tc : Thread Cert.AmaxX.nD Cert.AmaxX.τ).loc Cert.AmaxX.main_arg0))
      ∧ r.2.sem = fun _ => 0)

def quiescent_AmaxXIdeal [hAmaxXIdeal : Cert.AmaxXIdeal.Facts] : Prop :=
  ∀ (m : (ℓ : Loc Cert.AmaxXIdeal.nD Cert.AmaxXIdeal.τ Cert.AmaxXIdeal.sig) → Buf (Elt Ideal) ℓ) (g : Dev Cert.AmaxXIdeal.nD → PrngReg), Pre_AmaxXIdeal m →
    θ_run (Cert.AmaxXIdeal.defs (F := Ideal)) (onTc (τ := Cert.AmaxXIdeal.τ) (Cert.AmaxXIdeal.main (F := Ideal))) ⟨m, fun _ => 0, g⟩ (fun r => (∀ c : Dev Cert.AmaxXIdeal.nD,
      r.2.mem ((c.tc : Thread Cert.AmaxXIdeal.nD Cert.AmaxXIdeal.τ).loc Cert.AmaxXIdeal.main_arg0) = m ((c.tc : Thread Cert.AmaxXIdeal.nD Cert.AmaxXIdeal.τ).loc Cert.AmaxXIdeal.main_arg0))
      ∧ r.2.sem = fun _ => 0)

def quiescent_AmaxXRefIdeal [hAmaxXRefIdeal : Cert.AmaxXRefIdeal.Facts] : Prop :=
  ∀ (m : (ℓ : Loc Cert.AmaxXRefIdeal.nD Cert.AmaxXRefIdeal.τ Cert.AmaxXRefIdeal.sig) → Buf (Elt Ideal) ℓ) (g : Dev Cert.AmaxXRefIdeal.nD → PrngReg), Pre_AmaxXRefIdeal m →
    θ_run (Cert.AmaxXRefIdeal.defs (F := Ideal)) (onTc (τ := Cert.AmaxXRefIdeal.τ) (Cert.AmaxXRefIdeal.main (F := Ideal))) ⟨m, fun _ => 0, g⟩ (fun r => (∀ c : Dev Cert.AmaxXRefIdeal.nD,
      r.2.mem ((c.tc : Thread Cert.AmaxXRefIdeal.nD Cert.AmaxXRefIdeal.τ).loc Cert.AmaxXRefIdeal.main_arg0) = m ((c.tc : Thread Cert.AmaxXRefIdeal.nD Cert.AmaxXRefIdeal.τ).loc Cert.AmaxXRefIdeal.main_arg0))
      ∧ r.2.sem = fun _ => 0)

def quiescent_AmaxDy [hAmaxDy : Cert.AmaxDy.Facts] : Prop :=
  ∀ (m : (ℓ : Loc Cert.AmaxDy.nD Cert.AmaxDy.τ Cert.AmaxDy.sig) → Buf (Elt Bits) ℓ) (g : Dev Cert.AmaxDy.nD → PrngReg), Pre_AmaxDy m →
    θ_run (Cert.AmaxDy.defs (F := Bits)) (onTc (τ := Cert.AmaxDy.τ) (Cert.AmaxDy.main (F := Bits))) ⟨m, fun _ => 0, g⟩ (fun r => (∀ c : Dev Cert.AmaxDy.nD,
      r.2.mem ((c.tc : Thread Cert.AmaxDy.nD Cert.AmaxDy.τ).loc Cert.AmaxDy.main_arg0) = m ((c.tc : Thread Cert.AmaxDy.nD Cert.AmaxDy.τ).loc Cert.AmaxDy.main_arg0))
      ∧ r.2.sem = fun _ => 0)

def quiescent_AmaxDyIdeal [hAmaxDyIdeal : Cert.AmaxDyIdeal.Facts] : Prop :=
  ∀ (m : (ℓ : Loc Cert.AmaxDyIdeal.nD Cert.AmaxDyIdeal.τ Cert.AmaxDyIdeal.sig) → Buf (Elt Ideal) ℓ) (g : Dev Cert.AmaxDyIdeal.nD → PrngReg), Pre_AmaxDyIdeal m →
    θ_run (Cert.AmaxDyIdeal.defs (F := Ideal)) (onTc (τ := Cert.AmaxDyIdeal.τ) (Cert.AmaxDyIdeal.main (F := Ideal))) ⟨m, fun _ => 0, g⟩ (fun r => (∀ c : Dev Cert.AmaxDyIdeal.nD,
      r.2.mem ((c.tc : Thread Cert.AmaxDyIdeal.nD Cert.AmaxDyIdeal.τ).loc Cert.AmaxDyIdeal.main_arg0) = m ((c.tc : Thread Cert.AmaxDyIdeal.nD Cert.AmaxDyIdeal.τ).loc Cert.AmaxDyIdeal.main_arg0))
      ∧ r.2.sem = fun _ => 0)

def quiescent_AmaxDyRefIdeal [hAmaxDyRefIdeal : Cert.AmaxDyRefIdeal.Facts] : Prop :=
  ∀ (m : (ℓ : Loc Cert.AmaxDyRefIdeal.nD Cert.AmaxDyRefIdeal.τ Cert.AmaxDyRefIdeal.sig) → Buf (Elt Ideal) ℓ) (g : Dev Cert.AmaxDyRefIdeal.nD → PrngReg), Pre_AmaxDyRefIdeal m →
    θ_run (Cert.AmaxDyRefIdeal.defs (F := Ideal)) (onTc (τ := Cert.AmaxDyRefIdeal.τ) (Cert.AmaxDyRefIdeal.main (F := Ideal))) ⟨m, fun _ => 0, g⟩ (fun r => (∀ c : Dev Cert.AmaxDyRefIdeal.nD,
      r.2.mem ((c.tc : Thread Cert.AmaxDyRefIdeal.nD Cert.AmaxDyRefIdeal.τ).loc Cert.AmaxDyRefIdeal.main_arg0) = m ((c.tc : Thread Cert.AmaxDyRefIdeal.nD Cert.AmaxDyRefIdeal.τ).loc Cert.AmaxDyRefIdeal.main_arg0))
      ∧ r.2.sem = fun _ => 0)

def quiescent_AmaxWIdeal [hAmaxWIdeal : Cert.AmaxWIdeal.Facts] : Prop :=
  ∀ (m : (ℓ : Loc Cert.AmaxWIdeal.nD Cert.AmaxWIdeal.τ Cert.AmaxWIdeal.sig) → Buf (Elt Ideal) ℓ) (g : Dev Cert.AmaxWIdeal.nD → PrngReg), Pre_AmaxWIdeal m →
    θ_run (Cert.AmaxWIdeal.defs (F := Ideal)) (onTc (τ := Cert.AmaxWIdeal.τ) (Cert.AmaxWIdeal.main (F := Ideal))) ⟨m, fun _ => 0, g⟩ (fun r => (∀ c : Dev Cert.AmaxWIdeal.nD,
      r.2.mem ((c.tc : Thread Cert.AmaxWIdeal.nD Cert.AmaxWIdeal.τ).loc Cert.AmaxWIdeal.main_arg0) = m ((c.tc : Thread Cert.AmaxWIdeal.nD Cert.AmaxWIdeal.τ).loc Cert.AmaxWIdeal.main_arg0))
      ∧ r.2.sem = fun _ => 0)

def quiescent_AmaxWRefIdeal [hAmaxWRefIdeal : Cert.AmaxWRefIdeal.Facts] : Prop :=
  ∀ (m : (ℓ : Loc Cert.AmaxWRefIdeal.nD Cert.AmaxWRefIdeal.τ Cert.AmaxWRefIdeal.sig) → Buf (Elt Ideal) ℓ) (g : Dev Cert.AmaxWRefIdeal.nD → PrngReg), Pre_AmaxWRefIdeal m →
    θ_run (Cert.AmaxWRefIdeal.defs (F := Ideal)) (onTc (τ := Cert.AmaxWRefIdeal.τ) (Cert.AmaxWRefIdeal.main (F := Ideal))) ⟨m, fun _ => 0, g⟩ (fun r => (∀ c : Dev Cert.AmaxWRefIdeal.nD,
      r.2.mem ((c.tc : Thread Cert.AmaxWRefIdeal.nD Cert.AmaxWRefIdeal.τ).loc Cert.AmaxWRefIdeal.main_arg0) = m ((c.tc : Thread Cert.AmaxWRefIdeal.nD Cert.AmaxWRefIdeal.τ).loc Cert.AmaxWRefIdeal.main_arg0))
      ∧ r.2.sem = fun _ => 0)

def preserves_MmDx_MmDxIdeal : Prop :=
  True

def algebraic_MmDxIdeal_MmDxRefIdeal [hMmDxIdeal : Cert.MmDxIdeal.Facts] [hMmDxRefIdeal : Cert.MmDxRefIdeal.Facts] : Prop :=
  ∀ (m : (ℓ : Loc Cert.MmDxIdeal.nD Cert.MmDxIdeal.τ Cert.MmDxIdeal.sig) → Buf (Elt Ideal) ℓ) (g : Dev Cert.MmDxIdeal.nD → PrngReg)
    (m' : (ℓ : Loc Cert.MmDxRefIdeal.nD Cert.MmDxRefIdeal.τ Cert.MmDxRefIdeal.sig) → Buf (Elt Ideal) ℓ) (g' : Dev Cert.MmDxRefIdeal.nD → PrngReg), Pre_MmDxIdeal m →
    (∀ c : Dev Cert.MmDxIdeal.nD,
      m' ((c.tc : Thread Cert.MmDxRefIdeal.nD Cert.MmDxRefIdeal.τ).loc Cert.MmDxRefIdeal.main_arg0) = m ((c.tc : Thread Cert.MmDxIdeal.nD Cert.MmDxIdeal.τ).loc Cert.MmDxIdeal.main_arg0)
      ∧ m' ((c.tc : Thread Cert.MmDxRefIdeal.nD Cert.MmDxRefIdeal.τ).loc Cert.MmDxRefIdeal.main_arg1) = m ((c.tc : Thread Cert.MmDxIdeal.nD Cert.MmDxIdeal.τ).loc Cert.MmDxIdeal.main_arg1)
      ∧ m' ((c.tc : Thread Cert.MmDxRefIdeal.nD Cert.MmDxRefIdeal.τ).loc Cert.MmDxRefIdeal.main_arg2) = m ((c.tc : Thread Cert.MmDxIdeal.nD Cert.MmDxIdeal.τ).loc Cert.MmDxIdeal.main_arg2)
      ∧ m' ((c.tc : Thread Cert.MmDxRefIdeal.nD Cert.MmDxRefIdeal.τ).loc Cert.MmDxRefIdeal.main_arg3) = m ((c.tc : Thread Cert.MmDxIdeal.nD Cert.MmDxIdeal.τ).loc Cert.MmDxIdeal.main_arg3)) →
    ∃ (v0 : (c : Dev Cert.MmDxIdeal.nD) → Buf (Elt Ideal) ((c.tc : Thread Cert.MmDxIdeal.nD Cert.MmDxIdeal.τ).loc Cert.MmDxIdeal.main_v0)),
      θ_run (Cert.MmDxIdeal.defs (F := Ideal)) (onTc (τ := Cert.MmDxIdeal.τ) (Cert.MmDxIdeal.main (F := Ideal))) ⟨m, fun _ => 0, g⟩ (fun r => ∀ c : Dev Cert.MmDxIdeal.nD,
          r.2.mem ((c.tc : Thread Cert.MmDxIdeal.nD Cert.MmDxIdeal.τ).loc Cert.MmDxIdeal.main_v0) = v0 c
          ∧ r.2.mem ((c.tc : Thread Cert.MmDxIdeal.nD Cert.MmDxIdeal.τ).loc Cert.MmDxIdeal.main_arg0) = m ((c.tc : Thread Cert.MmDxIdeal.nD Cert.MmDxIdeal.τ).loc Cert.MmDxIdeal.main_arg0)
          ∧ r.2.mem ((c.tc : Thread Cert.MmDxIdeal.nD Cert.MmDxIdeal.τ).loc Cert.MmDxIdeal.main_arg1) = m ((c.tc : Thread Cert.MmDxIdeal.nD Cert.MmDxIdeal.τ).loc Cert.MmDxIdeal.main_arg1)
          ∧ r.2.mem ((c.tc : Thread Cert.MmDxIdeal.nD Cert.MmDxIdeal.τ).loc Cert.MmDxIdeal.main_arg2) = m ((c.tc : Thread Cert.MmDxIdeal.nD Cert.MmDxIdeal.τ).loc Cert.MmDxIdeal.main_arg2)
          ∧ r.2.mem ((c.tc : Thread Cert.MmDxIdeal.nD Cert.MmDxIdeal.τ).loc Cert.MmDxIdeal.main_arg3) = m ((c.tc : Thread Cert.MmDxIdeal.nD Cert.MmDxIdeal.τ).loc Cert.MmDxIdeal.main_arg3))
      ∧ θ_run (Cert.MmDxRefIdeal.defs (F := Ideal)) (onTc (τ := Cert.MmDxRefIdeal.τ) (Cert.MmDxRefIdeal.main (F := Ideal))) ⟨m', fun _ => 0, g'⟩ (fun r => ∀ c : Dev Cert.MmDxRefIdeal.nD,
          r.2.mem ((c.tc : Thread Cert.MmDxRefIdeal.nD Cert.MmDxRefIdeal.τ).loc Cert.MmDxRefIdeal.main_v9) = v0 c
          ∧ r.2.mem ((c.tc : Thread Cert.MmDxRefIdeal.nD Cert.MmDxRefIdeal.τ).loc Cert.MmDxRefIdeal.main_arg0) = m' ((c.tc : Thread Cert.MmDxRefIdeal.nD Cert.MmDxRefIdeal.τ).loc Cert.MmDxRefIdeal.main_arg0)
          ∧ r.2.mem ((c.tc : Thread Cert.MmDxRefIdeal.nD Cert.MmDxRefIdeal.τ).loc Cert.MmDxRefIdeal.main_arg1) = m' ((c.tc : Thread Cert.MmDxRefIdeal.nD Cert.MmDxRefIdeal.τ).loc Cert.MmDxRefIdeal.main_arg1)
          ∧ r.2.mem ((c.tc : Thread Cert.MmDxRefIdeal.nD Cert.MmDxRefIdeal.τ).loc Cert.MmDxRefIdeal.main_arg2) = m' ((c.tc : Thread Cert.MmDxRefIdeal.nD Cert.MmDxRefIdeal.τ).loc Cert.MmDxRefIdeal.main_arg2)
          ∧ r.2.mem ((c.tc : Thread Cert.MmDxRefIdeal.nD Cert.MmDxRefIdeal.τ).loc Cert.MmDxRefIdeal.main_arg3) = m' ((c.tc : Thread Cert.MmDxRefIdeal.nD Cert.MmDxRefIdeal.τ).loc Cert.MmDxRefIdeal.main_arg3))

def preserves_MmDw_MmDwIdeal : Prop :=
  True

def algebraic_MmDwIdeal_MmDwRefIdeal [hMmDwIdeal : Cert.MmDwIdeal.Facts] [hMmDwRefIdeal : Cert.MmDwRefIdeal.Facts] : Prop :=
  ∀ (m : (ℓ : Loc Cert.MmDwIdeal.nD Cert.MmDwIdeal.τ Cert.MmDwIdeal.sig) → Buf (Elt Ideal) ℓ) (g : Dev Cert.MmDwIdeal.nD → PrngReg)
    (m' : (ℓ : Loc Cert.MmDwRefIdeal.nD Cert.MmDwRefIdeal.τ Cert.MmDwRefIdeal.sig) → Buf (Elt Ideal) ℓ) (g' : Dev Cert.MmDwRefIdeal.nD → PrngReg), Pre_MmDwIdeal m →
    (∀ c : Dev Cert.MmDwIdeal.nD,
      m' ((c.tc : Thread Cert.MmDwRefIdeal.nD Cert.MmDwRefIdeal.τ).loc Cert.MmDwRefIdeal.main_arg0) = m ((c.tc : Thread Cert.MmDwIdeal.nD Cert.MmDwIdeal.τ).loc Cert.MmDwIdeal.main_arg0)
      ∧ m' ((c.tc : Thread Cert.MmDwRefIdeal.nD Cert.MmDwRefIdeal.τ).loc Cert.MmDwRefIdeal.main_arg1) = m ((c.tc : Thread Cert.MmDwIdeal.nD Cert.MmDwIdeal.τ).loc Cert.MmDwIdeal.main_arg1)
      ∧ m' ((c.tc : Thread Cert.MmDwRefIdeal.nD Cert.MmDwRefIdeal.τ).loc Cert.MmDwRefIdeal.main_arg2) = m ((c.tc : Thread Cert.MmDwIdeal.nD Cert.MmDwIdeal.τ).loc Cert.MmDwIdeal.main_arg2)
      ∧ m' ((c.tc : Thread Cert.MmDwRefIdeal.nD Cert.MmDwRefIdeal.τ).loc Cert.MmDwRefIdeal.main_arg3) = m ((c.tc : Thread Cert.MmDwIdeal.nD Cert.MmDwIdeal.τ).loc Cert.MmDwIdeal.main_arg3)) →
    ∃ (v0 : (c : Dev Cert.MmDwIdeal.nD) → Buf (Elt Ideal) ((c.tc : Thread Cert.MmDwIdeal.nD Cert.MmDwIdeal.τ).loc Cert.MmDwIdeal.main_v0)),
      θ_run (Cert.MmDwIdeal.defs (F := Ideal)) (onTc (τ := Cert.MmDwIdeal.τ) (Cert.MmDwIdeal.main (F := Ideal))) ⟨m, fun _ => 0, g⟩ (fun r => ∀ c : Dev Cert.MmDwIdeal.nD,
          r.2.mem ((c.tc : Thread Cert.MmDwIdeal.nD Cert.MmDwIdeal.τ).loc Cert.MmDwIdeal.main_v0) = v0 c
          ∧ r.2.mem ((c.tc : Thread Cert.MmDwIdeal.nD Cert.MmDwIdeal.τ).loc Cert.MmDwIdeal.main_arg0) = m ((c.tc : Thread Cert.MmDwIdeal.nD Cert.MmDwIdeal.τ).loc Cert.MmDwIdeal.main_arg0)
          ∧ r.2.mem ((c.tc : Thread Cert.MmDwIdeal.nD Cert.MmDwIdeal.τ).loc Cert.MmDwIdeal.main_arg1) = m ((c.tc : Thread Cert.MmDwIdeal.nD Cert.MmDwIdeal.τ).loc Cert.MmDwIdeal.main_arg1)
          ∧ r.2.mem ((c.tc : Thread Cert.MmDwIdeal.nD Cert.MmDwIdeal.τ).loc Cert.MmDwIdeal.main_arg2) = m ((c.tc : Thread Cert.MmDwIdeal.nD Cert.MmDwIdeal.τ).loc Cert.MmDwIdeal.main_arg2)
          ∧ r.2.mem ((c.tc : Thread Cert.MmDwIdeal.nD Cert.MmDwIdeal.τ).loc Cert.MmDwIdeal.main_arg3) = m ((c.tc : Thread Cert.MmDwIdeal.nD Cert.MmDwIdeal.τ).loc Cert.MmDwIdeal.main_arg3))
      ∧ θ_run (Cert.MmDwRefIdeal.defs (F := Ideal)) (onTc (τ := Cert.MmDwRefIdeal.τ) (Cert.MmDwRefIdeal.main (F := Ideal))) ⟨m', fun _ => 0, g'⟩ (fun r => ∀ c : Dev Cert.MmDwRefIdeal.nD,
          r.2.mem ((c.tc : Thread Cert.MmDwRefIdeal.nD Cert.MmDwRefIdeal.τ).loc Cert.MmDwRefIdeal.main_v8) = v0 c
          ∧ r.2.mem ((c.tc : Thread Cert.MmDwRefIdeal.nD Cert.MmDwRefIdeal.τ).loc Cert.MmDwRefIdeal.main_arg0) = m' ((c.tc : Thread Cert.MmDwRefIdeal.nD Cert.MmDwRefIdeal.τ).loc Cert.MmDwRefIdeal.main_arg0)
          ∧ r.2.mem ((c.tc : Thread Cert.MmDwRefIdeal.nD Cert.MmDwRefIdeal.τ).loc Cert.MmDwRefIdeal.main_arg1) = m' ((c.tc : Thread Cert.MmDwRefIdeal.nD Cert.MmDwRefIdeal.τ).loc Cert.MmDwRefIdeal.main_arg1)
          ∧ r.2.mem ((c.tc : Thread Cert.MmDwRefIdeal.nD Cert.MmDwRefIdeal.τ).loc Cert.MmDwRefIdeal.main_arg2) = m' ((c.tc : Thread Cert.MmDwRefIdeal.nD Cert.MmDwRefIdeal.τ).loc Cert.MmDwRefIdeal.main_arg2)
          ∧ r.2.mem ((c.tc : Thread Cert.MmDwRefIdeal.nD Cert.MmDwRefIdeal.τ).loc Cert.MmDwRefIdeal.main_arg3) = m' ((c.tc : Thread Cert.MmDwRefIdeal.nD Cert.MmDwRefIdeal.τ).loc Cert.MmDwRefIdeal.main_arg3))

def preserves_AmaxX_AmaxXIdeal : Prop :=
  True

def algebraic_AmaxXIdeal_AmaxXRefIdeal [hAmaxXIdeal : Cert.AmaxXIdeal.Facts] [hAmaxXRefIdeal : Cert.AmaxXRefIdeal.Facts] : Prop :=
  ∀ (m : (ℓ : Loc Cert.AmaxXIdeal.nD Cert.AmaxXIdeal.τ Cert.AmaxXIdeal.sig) → Buf (Elt Ideal) ℓ) (g : Dev Cert.AmaxXIdeal.nD → PrngReg)
    (m' : (ℓ : Loc Cert.AmaxXRefIdeal.nD Cert.AmaxXRefIdeal.τ Cert.AmaxXRefIdeal.sig) → Buf (Elt Ideal) ℓ) (g' : Dev Cert.AmaxXRefIdeal.nD → PrngReg), Pre_AmaxXIdeal m →
    (∀ c : Dev Cert.AmaxXIdeal.nD,
      m' ((c.tc : Thread Cert.AmaxXRefIdeal.nD Cert.AmaxXRefIdeal.τ).loc Cert.AmaxXRefIdeal.main_arg0) = m ((c.tc : Thread Cert.AmaxXIdeal.nD Cert.AmaxXIdeal.τ).loc Cert.AmaxXIdeal.main_arg0)) →
    ∃ (v0 : (c : Dev Cert.AmaxXIdeal.nD) → Buf (Elt Ideal) ((c.tc : Thread Cert.AmaxXIdeal.nD Cert.AmaxXIdeal.τ).loc Cert.AmaxXIdeal.main_v0)),
      θ_run (Cert.AmaxXIdeal.defs (F := Ideal)) (onTc (τ := Cert.AmaxXIdeal.τ) (Cert.AmaxXIdeal.main (F := Ideal))) ⟨m, fun _ => 0, g⟩ (fun r => ∀ c : Dev Cert.AmaxXIdeal.nD,
          r.2.mem ((c.tc : Thread Cert.AmaxXIdeal.nD Cert.AmaxXIdeal.τ).loc Cert.AmaxXIdeal.main_v0) = v0 c
          ∧ r.2.mem ((c.tc : Thread Cert.AmaxXIdeal.nD Cert.AmaxXIdeal.τ).loc Cert.AmaxXIdeal.main_arg0) = m ((c.tc : Thread Cert.AmaxXIdeal.nD Cert.AmaxXIdeal.τ).loc Cert.AmaxXIdeal.main_arg0))
      ∧ θ_run (Cert.AmaxXRefIdeal.defs (F := Ideal)) (onTc (τ := Cert.AmaxXRefIdeal.τ) (Cert.AmaxXRefIdeal.main (F := Ideal))) ⟨m', fun _ => 0, g'⟩ (fun r => ∀ c : Dev Cert.AmaxXRefIdeal.nD,
          r.2.mem ((c.tc : Thread Cert.AmaxXRefIdeal.nD Cert.AmaxXRefIdeal.τ).loc Cert.AmaxXRefIdeal.main_v23) = v0 c
          ∧ r.2.mem ((c.tc : Thread Cert.AmaxXRefIdeal.nD Cert.AmaxXRefIdeal.τ).loc Cert.AmaxXRefIdeal.main_arg0) = m' ((c.tc : Thread Cert.AmaxXRefIdeal.nD Cert.AmaxXRefIdeal.τ).loc Cert.AmaxXRefIdeal.main_arg0))

def preserves_AmaxDy_AmaxDyIdeal : Prop :=
  True

def algebraic_AmaxDyIdeal_AmaxDyRefIdeal [hAmaxDyIdeal : Cert.AmaxDyIdeal.Facts] [hAmaxDyRefIdeal : Cert.AmaxDyRefIdeal.Facts] : Prop :=
  ∀ (m : (ℓ : Loc Cert.AmaxDyIdeal.nD Cert.AmaxDyIdeal.τ Cert.AmaxDyIdeal.sig) → Buf (Elt Ideal) ℓ) (g : Dev Cert.AmaxDyIdeal.nD → PrngReg)
    (m' : (ℓ : Loc Cert.AmaxDyRefIdeal.nD Cert.AmaxDyRefIdeal.τ Cert.AmaxDyRefIdeal.sig) → Buf (Elt Ideal) ℓ) (g' : Dev Cert.AmaxDyRefIdeal.nD → PrngReg), Pre_AmaxDyIdeal m →
    (∀ c : Dev Cert.AmaxDyIdeal.nD,
      m' ((c.tc : Thread Cert.AmaxDyRefIdeal.nD Cert.AmaxDyRefIdeal.τ).loc Cert.AmaxDyRefIdeal.main_arg0) = m ((c.tc : Thread Cert.AmaxDyIdeal.nD Cert.AmaxDyIdeal.τ).loc Cert.AmaxDyIdeal.main_arg0)) →
    ∃ (v0 : (c : Dev Cert.AmaxDyIdeal.nD) → Buf (Elt Ideal) ((c.tc : Thread Cert.AmaxDyIdeal.nD Cert.AmaxDyIdeal.τ).loc Cert.AmaxDyIdeal.main_v0_0)) (v1 : (c : Dev Cert.AmaxDyIdeal.nD) → Buf (Elt Ideal) ((c.tc : Thread Cert.AmaxDyIdeal.nD Cert.AmaxDyIdeal.τ).loc Cert.AmaxDyIdeal.main_v0_1)),
      θ_run (Cert.AmaxDyIdeal.defs (F := Ideal)) (onTc (τ := Cert.AmaxDyIdeal.τ) (Cert.AmaxDyIdeal.main (F := Ideal))) ⟨m, fun _ => 0, g⟩ (fun r => ∀ c : Dev Cert.AmaxDyIdeal.nD,
          r.2.mem ((c.tc : Thread Cert.AmaxDyIdeal.nD Cert.AmaxDyIdeal.τ).loc Cert.AmaxDyIdeal.main_v0_0) = v0 c
          ∧ r.2.mem ((c.tc : Thread Cert.AmaxDyIdeal.nD Cert.AmaxDyIdeal.τ).loc Cert.AmaxDyIdeal.main_v0_1) = v1 c
          ∧ r.2.mem ((c.tc : Thread Cert.AmaxDyIdeal.nD Cert.AmaxDyIdeal.τ).loc Cert.AmaxDyIdeal.main_arg0) = m ((c.tc : Thread Cert.AmaxDyIdeal.nD Cert.AmaxDyIdeal.τ).loc Cert.AmaxDyIdeal.main_arg0))
      ∧ θ_run (Cert.AmaxDyRefIdeal.defs (F := Ideal)) (onTc (τ := Cert.AmaxDyRefIdeal.τ) (Cert.AmaxDyRefIdeal.main (F := Ideal))) ⟨m', fun _ => 0, g'⟩ (fun r => ∀ c : Dev Cert.AmaxDyRefIdeal.nD,
          r.2.mem ((c.tc : Thread Cert.AmaxDyRefIdeal.nD Cert.AmaxDyRefIdeal.τ).loc Cert.AmaxDyRefIdeal.main_v23) = v0 c
          ∧ r.2.mem ((c.tc : Thread Cert.AmaxDyRefIdeal.nD Cert.AmaxDyRefIdeal.τ).loc Cert.AmaxDyRefIdeal.main_v46) = v1 c
          ∧ r.2.mem ((c.tc : Thread Cert.AmaxDyRefIdeal.nD Cert.AmaxDyRefIdeal.τ).loc Cert.AmaxDyRefIdeal.main_arg0) = m' ((c.tc : Thread Cert.AmaxDyRefIdeal.nD Cert.AmaxDyRefIdeal.τ).loc Cert.AmaxDyRefIdeal.main_arg0))

def algebraic_AmaxWIdeal_AmaxWRefIdeal [hAmaxWIdeal : Cert.AmaxWIdeal.Facts] [hAmaxWRefIdeal : Cert.AmaxWRefIdeal.Facts] : Prop :=
  ∀ (m : (ℓ : Loc Cert.AmaxWIdeal.nD Cert.AmaxWIdeal.τ Cert.AmaxWIdeal.sig) → Buf (Elt Ideal) ℓ) (g : Dev Cert.AmaxWIdeal.nD → PrngReg)
    (m' : (ℓ : Loc Cert.AmaxWRefIdeal.nD Cert.AmaxWRefIdeal.τ Cert.AmaxWRefIdeal.sig) → Buf (Elt Ideal) ℓ) (g' : Dev Cert.AmaxWRefIdeal.nD → PrngReg), Pre_AmaxWIdeal m →
    (∀ c : Dev Cert.AmaxWIdeal.nD,
      m' ((c.tc : Thread Cert.AmaxWRefIdeal.nD Cert.AmaxWRefIdeal.τ).loc Cert.AmaxWRefIdeal.main_arg0) = m ((c.tc : Thread Cert.AmaxWIdeal.nD Cert.AmaxWIdeal.τ).loc Cert.AmaxWIdeal.main_arg0)) →
    ∃ (v0 : (c : Dev Cert.AmaxWIdeal.nD) → Buf (Elt Ideal) ((c.tc : Thread Cert.AmaxWIdeal.nD Cert.AmaxWIdeal.τ).loc Cert.AmaxWIdeal.main_v0)),
      θ_run (Cert.AmaxWIdeal.defs (F := Ideal)) (onTc (τ := Cert.AmaxWIdeal.τ) (Cert.AmaxWIdeal.main (F := Ideal))) ⟨m, fun _ => 0, g⟩ (fun r => ∀ c : Dev Cert.AmaxWIdeal.nD,
          r.2.mem ((c.tc : Thread Cert.AmaxWIdeal.nD Cert.AmaxWIdeal.τ).loc Cert.AmaxWIdeal.main_v0) = v0 c
          ∧ r.2.mem ((c.tc : Thread Cert.AmaxWIdeal.nD Cert.AmaxWIdeal.τ).loc Cert.AmaxWIdeal.main_arg0) = m ((c.tc : Thread Cert.AmaxWIdeal.nD Cert.AmaxWIdeal.τ).loc Cert.AmaxWIdeal.main_arg0))
      ∧ θ_run (Cert.AmaxWRefIdeal.defs (F := Ideal)) (onTc (τ := Cert.AmaxWRefIdeal.τ) (Cert.AmaxWRefIdeal.main (F := Ideal))) ⟨m', fun _ => 0, g'⟩ (fun r => ∀ c : Dev Cert.AmaxWRefIdeal.nD,
          r.2.mem ((c.tc : Thread Cert.AmaxWRefIdeal.nD Cert.AmaxWRefIdeal.τ).loc Cert.AmaxWRefIdeal.main_v22) = v0 c
          ∧ r.2.mem ((c.tc : Thread Cert.AmaxWRefIdeal.nD Cert.AmaxWRefIdeal.τ).loc Cert.AmaxWRefIdeal.main_arg0) = m' ((c.tc : Thread Cert.AmaxWRefIdeal.nD Cert.AmaxWRefIdeal.τ).loc Cert.AmaxWRefIdeal.main_arg0))

def Claim : Prop :=
  ∃ (hMmDx : Cert.MmDx.Facts) (hMmDxIdeal : Cert.MmDxIdeal.Facts) (hMmDxRefIdeal : Cert.MmDxRefIdeal.Facts) (hMmDw : Cert.MmDw.Facts) (hMmDwIdeal : Cert.MmDwIdeal.Facts) (hMmDwRefIdeal : Cert.MmDwRefIdeal.Facts) (hAmaxX : Cert.AmaxX.Facts) (hAmaxXIdeal : Cert.AmaxXIdeal.Facts) (hAmaxXRefIdeal : Cert.AmaxXRefIdeal.Facts) (hAmaxDy : Cert.AmaxDy.Facts) (hAmaxDyIdeal : Cert.AmaxDyIdeal.Facts) (hAmaxDyRefIdeal : Cert.AmaxDyRefIdeal.Facts) (hAmaxWIdeal : Cert.AmaxWIdeal.Facts) (hAmaxWRefIdeal : Cert.AmaxWRefIdeal.Facts),
    quiescent_MmDx (hMmDx := hMmDx)
    ∧ quiescent_MmDxIdeal (hMmDxIdeal := hMmDxIdeal)
    ∧ quiescent_MmDxRefIdeal (hMmDxRefIdeal := hMmDxRefIdeal)
    ∧ quiescent_MmDw (hMmDw := hMmDw)
    ∧ quiescent_MmDwIdeal (hMmDwIdeal := hMmDwIdeal)
    ∧ quiescent_MmDwRefIdeal (hMmDwRefIdeal := hMmDwRefIdeal)
    ∧ quiescent_AmaxX (hAmaxX := hAmaxX)
    ∧ quiescent_AmaxXIdeal (hAmaxXIdeal := hAmaxXIdeal)
    ∧ quiescent_AmaxXRefIdeal (hAmaxXRefIdeal := hAmaxXRefIdeal)
    ∧ quiescent_AmaxDy (hAmaxDy := hAmaxDy)
    ∧ quiescent_AmaxDyIdeal (hAmaxDyIdeal := hAmaxDyIdeal)
    ∧ quiescent_AmaxDyRefIdeal (hAmaxDyRefIdeal := hAmaxDyRefIdeal)
    ∧ quiescent_AmaxWIdeal (hAmaxWIdeal := hAmaxWIdeal)
    ∧ quiescent_AmaxWRefIdeal (hAmaxWRefIdeal := hAmaxWRefIdeal)
    ∧ preserves_MmDx_MmDxIdeal
    ∧ algebraic_MmDxIdeal_MmDxRefIdeal (hMmDxIdeal := hMmDxIdeal) (hMmDxRefIdeal := hMmDxRefIdeal)
    ∧ preserves_MmDw_MmDwIdeal
    ∧ algebraic_MmDwIdeal_MmDwRefIdeal (hMmDwIdeal := hMmDwIdeal) (hMmDwRefIdeal := hMmDwRefIdeal)
    ∧ preserves_AmaxX_AmaxXIdeal
    ∧ algebraic_AmaxXIdeal_AmaxXRefIdeal (hAmaxXIdeal := hAmaxXIdeal) (hAmaxXRefIdeal := hAmaxXRefIdeal)
    ∧ preserves_AmaxDy_AmaxDyIdeal
    ∧ algebraic_AmaxDyIdeal_AmaxDyRefIdeal (hAmaxDyIdeal := hAmaxDyIdeal) (hAmaxDyRefIdeal := hAmaxDyRefIdeal)
    ∧ algebraic_AmaxWIdeal_AmaxWRefIdeal (hAmaxWIdeal := hAmaxWIdeal) (hAmaxWRefIdeal := hAmaxWRefIdeal)
-- ==== MmDx.lean ====
abbrev S8192x16384 : Shape := ⟨2, ![8192, 16384]⟩
abbrev S6144x16384 : Shape := ⟨2, ![6144, 16384]⟩
abbrev S8x128 : Shape := ⟨2, ![8, 128]⟩
abbrev S8192x6144 : Shape := ⟨2, ![8192, 6144]⟩
abbrev S1024x2048 : Shape := ⟨2, ![1024, 2048]⟩
abbrev S1024x1024 : Shape := ⟨2, ![1024, 1024]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x16384, .bf16⟩
  | .hbm, ⟨1, _⟩ => ⟨S6144x16384, .bf16⟩
  | .hbm, ⟨2, _⟩ => ⟨S8x128, .f32⟩
  | .hbm, ⟨3, _⟩ => ⟨S8x128, .f32⟩
  | .hbm, ⟨4, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S8x128, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 6, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MmDxRefIdeal.lean ====
abbrev S8192x16384 : Shape := ⟨2, ![8192, 16384]⟩
abbrev S6144x16384 : Shape := ⟨2, ![6144, 16384]⟩
abbrev S8x128 : Shape := ⟨2, ![8, 128]⟩
abbrev S8192x6144 : Shape := ⟨2, ![8192, 6144]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S6144x16384, .bf16⟩
  | .hbm, ⟨2, _⟩ => ⟨S8x128, .f32⟩
  | .hbm, ⟨3, _⟩ => ⟨S8x128, .f32⟩
  | .hbm, ⟨4, _⟩ => ⟨S8192x6144, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x6144, .f32⟩
  | .hbm, ⟨13, _⟩ => ⟨S8192x6144, .f32⟩
  | .hbm, ⟨14, _⟩ => ⟨S8192x6144, .bf16⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== MmDw.lean ====
abbrev S6144x8192 : Shape := ⟨2, ![6144, 8192]⟩
abbrev S8192x16384 : Shape := ⟨2, ![8192, 16384]⟩
abbrev S8x128 : Shape := ⟨2, ![8, 128]⟩
abbrev S6144x16384 : Shape := ⟨2, ![6144, 16384]⟩
abbrev S1024x2048 : Shape := ⟨2, ![1024, 2048]⟩
abbrev S2048x1024 : Shape := ⟨2, ![2048, 1024]⟩
abbrev S1024x1024 : Shape := ⟨2, ![1024, 1024]⟩
abbrev S1x1 : Shape := ⟨2, ![1, 1]⟩

abbrev nBuf : Space → Nat
  | .hbm => 5
  | .vmem => 8
  | .smem => 0
  | _ => 0

abbrev bufTy : (tb : Table) → Fin (tcTables nBuf tb) → BufTy
  | .hbm, ⟨0, _⟩ => ⟨S6144x8192, .bf16⟩
  | .hbm, ⟨1, _⟩ => ⟨S8192x16384, .bf16⟩
  | .hbm, ⟨2, _⟩ => ⟨S8x128, .f32⟩
  | .hbm, ⟨3, _⟩ => ⟨S8x128, .f32⟩
  | .hbm, ⟨4, _⟩ => ⟨S6144x16384, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S8x128, .f32⟩
  | .local _ .vmem, ⟨5, _⟩ => ⟨S8x128, .f32⟩
  | .local _ .vmem, ⟨6, _⟩ => ⟨S1024x1024, .f32⟩
  | .local _ .vmem, ⟨7, _⟩ => ⟨S1024x1024, .f32⟩
  | _, _ => ⟨S6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![6, 16, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MmDwRefIdeal.lean ====
abbrev S6144x8192 : Shape := ⟨2, ![6144, 8192]⟩
abbrev S8192x16384 : Shape := ⟨2, ![8192, 16384]⟩
abbrev S8x128 : Shape := ⟨2, ![8, 128]⟩
abbrev S6144x16384 : Shape := ⟨2, ![6144, 16384]⟩
abbrev S1x1 : Shape := ⟨2, ![1, 1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S6144x8192, .bf16⟩
  | .hbm, ⟨1, _⟩ => ⟨S8192x16384, .bf16⟩
  | .hbm, ⟨2, _⟩ => ⟨S8x128, .f32⟩
  | .hbm, ⟨3, _⟩ => ⟨S8x128, .f32⟩
  | .hbm, ⟨4, _⟩ => ⟨S6144x16384, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S6144x16384, .f32⟩
  | .hbm, ⟨13, _⟩ => ⟨S6144x16384, .f32⟩
  | _, _ => ⟨S6144x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== AmaxX.lean ====
abbrev S8192x6144 : Shape := ⟨2, ![8192, 6144]⟩
abbrev S256x256 : Shape := ⟨2, ![256, 256]⟩
abbrev S8x128 : Shape := ⟨2, ![8, 128]⟩
abbrev S512x2048 : Shape := ⟨2, ![512, 2048]⟩
abbrev S8x256 : Shape := ⟨2, ![8, 256]⟩
abbrev S32x8x256 : Shape := ⟨3, ![32, 8, 256]⟩
abbrev S1x8x256 : Shape := ⟨3, ![1, 8, 256]⟩
abbrev S1 : Shape := ⟨1, ![1]⟩
abbrev S1x1x1 : Shape := ⟨3, ![1, 1, 1]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x6144, .bf16⟩
  | .hbm, ⟨1, _⟩ => ⟨S256x256, .bf16⟩
  | .hbm, ⟨2, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S256x256, .bf16⟩
  | .local _ .vmem, ⟨3, _⟩ => ⟨S8x128, .f32⟩
  | .local _ .vmem, ⟨4, _⟩ => ⟨S8x256, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg0 : BitVec 32 := BitVec.ofNat 32 (i 0).val
  let c15_i32 : BitVec 32 := 15#32
  let v3 : BitVec 1 := Scalar.cmpi .eq arg0 c15_i32
  let arg1 : BitVec 32 := BitVec.ofNat 32 (i 1).val
  let c2_i32 : BitVec 32 := 2#32
  let v4 : BitVec 1 := Scalar.cmpi .eq arg1 c2_i32
  let v5 : BitVec 1 := Scalar.andi v3 v4
  let v109 : BitVec 32 := Scalar.extui v5
  let c0_i32_63 : BitVec 32 := 0#32
  let v110 : BitVec 1 := Scalar.cmpi .ne v109 c0_i32_63
  v110

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== AmaxXRefIdeal.lean ====
abbrev S8192x6144 : Shape := ⟨2, ![8192, 6144]⟩
abbrev S256x32x6144 : Shape := ⟨3, ![256, 32, 6144]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S32x256x6144 : Shape := ⟨3, ![32, 256, 6144]⟩
abbrev S8x128 : Shape := ⟨2, ![8, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x6144, .f32⟩
  | .hbm, ⟨2, _⟩ => ⟨S256x32x6144, .f32⟩
  | .hbm, ⟨3, _⟩ => ⟨S32, .i32⟩
  | .hbm, ⟨4, _⟩ => ⟨S32x1, .i32⟩
  | .hbm, ⟨5, _⟩ => ⟨S1x32, .i32⟩
  | .hbm, ⟨6, _⟩ => ⟨S32x32, .i32⟩
  | .hbm, ⟨7, _⟩ => ⟨S32x32, .i32⟩
  | .hbm, ⟨8, _⟩ => ⟨S32x32, .i32⟩
  | .hbm, ⟨9, _⟩ => ⟨S32x32, .i32⟩
  | .hbm, ⟨10, _⟩ => ⟨S_, .i32⟩
  | .hbm, ⟨11, _⟩ => ⟨S32x32, .i32⟩
  | .hbm, ⟨12, _⟩ => ⟨S32x32, .i32⟩
  | .hbm, ⟨13, _⟩ => ⟨S_, .i32⟩
  | .hbm, ⟨14, _⟩ => ⟨S32x32, .i32⟩
  | .hbm, ⟨15, _⟩ => ⟨S32x32, .i32⟩
  | .hbm, ⟨16, _⟩ => ⟨S_, .i32⟩
  | .hbm, ⟨17, _⟩ => ⟨S32x32, .i32⟩
  | .hbm, ⟨18, _⟩ => ⟨S32x32, .i32⟩
  | .hbm, ⟨19, _⟩ => ⟨S32x32, .f32⟩
  | .hbm, ⟨20, _⟩ => ⟨S32x256x6144, .f32⟩
  | .hbm, ⟨21, _⟩ => ⟨S256x32x6144, .f32⟩
  | .hbm, ⟨22, _⟩ => ⟨S256x32x6144, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x128, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== AmaxDy.lean ====
abbrev S8192x16384 : Shape := ⟨2, ![8192, 16384]⟩
abbrev S256x256 : Shape := ⟨2, ![256, 256]⟩
abbrev S8x128 : Shape := ⟨2, ![8, 128]⟩
abbrev S512x2048 : Shape := ⟨2, ![512, 2048]⟩
abbrev S8x256 : Shape := ⟨2, ![8, 256]⟩
abbrev S32x8x256 : Shape := ⟨3, ![32, 8, 256]⟩
abbrev S512x256 : Shape := ⟨2, ![512, 256]⟩
abbrev S64x8x256 : Shape := ⟨3, ![64, 8, 256]⟩
abbrev S1x8x256 : Shape := ⟨3, ![1, 8, 256]⟩
abbrev S1 : Shape := ⟨1, ![1]⟩
abbrev S1x1x1 : Shape := ⟨3, ![1, 1, 1]⟩
abbrev S1x1 : Shape := ⟨2, ![1, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x16384, .bf16⟩
  | .hbm, ⟨1, _⟩ => ⟨S256x256, .bf16⟩
  | .hbm, ⟨2, _⟩ => ⟨S256x256, .bf16⟩
  | .hbm, ⟨3, _⟩ => ⟨S8x128, .f32⟩
  | .hbm, ⟨4, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S256x256, .bf16⟩
  | .local _ .vmem, ⟨3, _⟩ => ⟨S256x256, .bf16⟩
  | .local _ .vmem, ⟨4, _⟩ => ⟨S8x128, .f32⟩
  | .local _ .vmem, ⟨5, _⟩ => ⟨S8x128, .f32⟩
  | .local _ .vmem, ⟨6, _⟩ => ⟨S8x256, .f32⟩
  | .local _ .vmem, ⟨7, _⟩ => ⟨S8x256, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg0 : BitVec 32 := BitVec.ofNat 32 (i 0).val
  let c15_i32 : BitVec 32 := 15#32
  let v3 : BitVec 1 := Scalar.cmpi .eq arg0 c15_i32
  let arg1 : BitVec 32 := BitVec.ofNat 32 (i 1).val
  let c7_i32 : BitVec 32 := 7#32
  let v4 : BitVec 1 := Scalar.cmpi .eq arg1 c7_i32
  let v5 : BitVec 1 := Scalar.andi v3 v4
  let v162 : BitVec 32 := Scalar.extui v5
  let c0_i32_101 : BitVec 32 := 0#32
  let v163 : BitVec 1 := Scalar.cmpi .ne v162 c0_i32_101
  v163

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== AmaxDyRefIdeal.lean ====
abbrev S8192x16384 : Shape := ⟨2, ![8192, 16384]⟩
abbrev S256x32x16384 : Shape := ⟨3, ![256, 32, 16384]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S32x256x16384 : Shape := ⟨3, ![32, 256, 16384]⟩
abbrev S8x128 : Shape := ⟨2, ![8, 128]⟩
abbrev S8192x512x32 : Shape := ⟨3, ![8192, 512, 32]⟩

abbrev nBuf : Space → Nat
  | .hbm => 64
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S8192x16384, .f32⟩
  | .hbm, ⟨2, _⟩ => ⟨S256x32x16384, .f32⟩
  | .hbm, ⟨3, _⟩ => ⟨S32, .i32⟩
  | .hbm, ⟨4, _⟩ => ⟨S32x1, .i32⟩
  | .hbm, ⟨5, _⟩ => ⟨S1x32, .i32⟩
  | .hbm, ⟨6, _⟩ => ⟨S32x32, .i32⟩
  | .hbm, ⟨7, _⟩ => ⟨S32x32, .i32⟩
  | .hbm, ⟨8, _⟩ => ⟨S32x32, .i32⟩
  | .hbm, ⟨9, _⟩ => ⟨S32x32, .i32⟩
  | .hbm, ⟨10, _⟩ => ⟨S_, .i32⟩
  | .hbm, ⟨11, _⟩ => ⟨S32x32, .i32⟩
  | .hbm, ⟨12, _⟩ => ⟨S32x32, .i32⟩
  | .hbm, ⟨13, _⟩ => ⟨S_, .i32⟩
  | .hbm, ⟨14, _⟩ => ⟨S32x32, .i32⟩
  | .hbm, ⟨15, _⟩ => ⟨S32x32, .i32⟩
  | .hbm, ⟨16, _⟩ => ⟨S_, .i32⟩
  | .hbm, ⟨17, _⟩ => ⟨S32x32, .i32⟩
  | .hbm, ⟨18, _⟩ => ⟨S32x32, .i32⟩
  | .hbm, ⟨19, _⟩ => ⟨S32x32, .f32⟩
  | .hbm, ⟨20, _⟩ => ⟨S32x256x16384, .f32⟩
  | .hbm, ⟨21, _⟩ => ⟨S256x32x16384, .f32⟩
  | .hbm, ⟨22, _⟩ => ⟨S256x32x16384, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x128, .f32⟩
  | .hbm, ⟨33, _⟩ => ⟨S8192x16384, .f32⟩
  | .hbm, ⟨34, _⟩ => ⟨S8192x512x32, .f32⟩
  | .hbm, ⟨35, _⟩ => ⟨S32, .i32⟩
  | .hbm, ⟨36, _⟩ => ⟨S32x1, .i32⟩
  | .hbm, ⟨37, _⟩ => ⟨S1x32, .i32⟩
  | .hbm, ⟨38, _⟩ => ⟨S32x32, .i32⟩
  | .hbm, ⟨39, _⟩ => ⟨S32x32, .i32⟩
  | .hbm, ⟨40, _⟩ => ⟨S32x32, .i32⟩
  | .hbm, ⟨41, _⟩ => ⟨S32x32, .i32⟩
  | .hbm, ⟨42, _⟩ => ⟨S_, .i32⟩
  | .hbm, ⟨43, _⟩ => ⟨S32x32, .i32⟩
  | .hbm, ⟨44, _⟩ => ⟨S32x32, .i32⟩
  | .hbm, ⟨45, _⟩ => ⟨S_, .i32⟩
  | .hbm, ⟨46, _⟩ => ⟨S32x32, .i32⟩
  | .hbm, ⟨47, _⟩ => ⟨S32x32, .i32⟩
  | .hbm, ⟨48, _⟩ => ⟨S_, .i32⟩
  | .hbm, ⟨49, _⟩ => ⟨S32x32, .i32⟩
  | .hbm, ⟨50, _⟩ => ⟨S32x32, .i32⟩
  | .hbm, ⟨51, _⟩ => ⟨S32x32, .f32⟩
  | .hbm, ⟨52, _⟩ => ⟨S8192x512x32, .f32⟩
  | .hbm, ⟨53, _⟩ => ⟨S8192x512x32, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8x128, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_5 : Ref sig .tc := ⟨.hbm, 42, rfl⟩
abbrev main_v33 : Ref sig .tc := ⟨.hbm, 43, rfl⟩
abbrev main_v34 : Ref sig .tc := ⟨.hbm, 44, rfl⟩
abbrev main_c_6 : Ref sig .tc := ⟨.hbm, 45, rfl⟩
abbrev main_v35 : Ref sig .tc := ⟨.hbm, 46, rfl⟩
abbrev main_v36 : Ref sig .tc := ⟨.hbm, 47, rfl⟩
abbrev main_c_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev main_cst_11 : Ref sig .tc := ⟨.hbm, 60, rfl⟩
abbrev main_call1_v0 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== AmaxWIdeal.lean ====
abbrev S6144x16384 : Shape := ⟨2, ![6144, 16384]⟩
abbrev S256x256 : Shape := ⟨2, ![256, 256]⟩
abbrev S8x128 : Shape := ⟨2, ![8, 128]⟩
abbrev S512x2048 : Shape := ⟨2, ![512, 2048]⟩
abbrev S8x256 : Shape := ⟨2, ![8, 256]⟩
abbrev S512x256 : Shape := ⟨2, ![512, 256]⟩
abbrev S64x8x256 : Shape := ⟨3, ![64, 8, 256]⟩
abbrev S1x8x256 : Shape := ⟨3, ![1, 8, 256]⟩
abbrev S1 : Shape := ⟨1, ![1]⟩
abbrev S1x1x1 : Shape := ⟨3, ![1, 1, 1]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S6144x16384, .bf16⟩
  | .hbm, ⟨1, _⟩ => ⟨S256x256, .bf16⟩
  | .hbm, ⟨2, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S256x256, .bf16⟩
  | .local _ .vmem, ⟨3, _⟩ => ⟨S8x128, .f32⟩
  | .local _ .vmem, ⟨4, _⟩ => ⟨S8x256, .f32⟩
  | _, _ => ⟨S6144x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨2, ![12, 8], ![false, false]⟩

def k0_cond2 (i : grid0.Coords) : BitVec 1 :=
  let arg0 : BitVec 32 := BitVec.ofNat 32 (i 0).val
  let c11_i32 : BitVec 32 := 11#32
  let v3 : BitVec 1 := Scalar.cmpi .eq arg0 c11_i32
  let arg1 : BitVec 32 := BitVec.ofNat 32 (i 1).val
  let c7_i32 : BitVec 32 := 7#32
  let v4 : BitVec 1 := Scalar.cmpi .eq arg1 c7_i32
  let v5 : BitVec 1 := Scalar.andi v3 v4
  let v61 : BitVec 32 := Scalar.extui v5
  let c0_i32_31 : BitVec 32 := 0#32
  let v62 : BitVec 1 := Scalar.cmpi .ne v61 c0_i32_31
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== AmaxWRefIdeal.lean ====
abbrev S6144x16384 : Shape := ⟨2, ![6144, 16384]⟩
abbrev S6144x512x32 : Shape := ⟨3, ![6144, 512, 32]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S8x128 : Shape := ⟨2, ![8, 128]⟩

abbrev nBuf : Space → Nat
  | .hbm => 32
  | .vmem => 0
  | .smem => 0
  | _ => 0

abbrev bufTy : (tb : Table) → Fin (tcTables nBuf tb) → BufTy
  | .hbm, ⟨0, _⟩ => ⟨S6144x16384, .bf16⟩
  | .hbm, ⟨1, _⟩ => ⟨S6144x16384, .f32⟩
  | .hbm, ⟨2, _⟩ => ⟨S6144x512x32, .f32⟩
  | .hbm, ⟨3, _⟩ => ⟨S32, .i32⟩
  | .hbm, ⟨4, _⟩ => ⟨S32x1, .i32⟩
  | .hbm, ⟨5, _⟩ => ⟨S1x32, .i32⟩
  | .hbm, ⟨6, _⟩ => ⟨S32x32, .i32⟩
  | .hbm, ⟨7, _⟩ => ⟨S32x32, .i32⟩
  | .hbm, ⟨8, _⟩ => ⟨S32x32, .i32⟩
  | .hbm, ⟨9, _⟩ => ⟨S32x32, .i32⟩
  | .hbm, ⟨10, _⟩ => ⟨S_, .i32⟩
  | .hbm, ⟨11, _⟩ => ⟨S32x32, .i32⟩
  | .hbm, ⟨12, _⟩ => ⟨S32x32, .i32⟩
  | .hbm, ⟨13, _⟩ => ⟨S_, .i32⟩
  | .hbm, ⟨14, _⟩ => ⟨S32x32, .i32⟩
  | .hbm, ⟨15, _⟩ => ⟨S32x32, .i32⟩
  | .hbm, ⟨16, _⟩ => ⟨S_, .i32⟩
  | .hbm, ⟨17, _⟩ => ⟨S32x32, .i32⟩
  | .hbm, ⟨18, _⟩ => ⟨S32x32, .i32⟩
  | .hbm, ⟨19, _⟩ => ⟨S32x32, .f32⟩
  | .hbm, ⟨20, _⟩ => ⟨S6144x512x32, .f32⟩
  | .hbm, ⟨21, _⟩ => ⟨S6144x512x32, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x128, .f32⟩
  | _, _ => ⟨S6144x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.MmDxValue.lean ====
module

public import proofs.«01_k».proof.Proof.Gen.MmDxIdeal.Value
public import proofs.«01_k».proof.Proof.Gen.MmDxRefIdeal.Run
public import Idealize.ShloMosaic.Lib.Pipeline.ValueKit
public import Idealize.ShloMosaic.Lib.Pipeline.Covers
public import Idealize.ShloMosaic.Lib.Pipeline.ReadBack

@[expose] public section

set_option maxRecDepth 16384

/-! The data-gradient product `mm_dx`: the array it leaves is the reference's term of its four arguments. -/

noncomputable section

namespace Cert.MmDxIdeal.Hand

open Cert.MmDxIdeal Cert.MmDxIdeal.Gen Idealize.ShloMosaic Idealize.ShloMosaic.TcCoe Idealize.SL.Sem
open Idealize.ShloMosaic.Pipeline (Dat)

variable (m : (ℓ : Loc nD τ sig) → Buf (Elt Ideal) ℓ)

/-- The reference's composed term: the product of the operands, times the two tensor scales and 1/32. -/
abbrev REF (A : FVec Ideal S8192x16384 .bf16) (B : FVec Ideal S6144x16384 .bf16) (ta tb : FVec Ideal S8x128 .f32) :
    FVec Ideal S8192x6144 .bf16 :=
  truncf .bf16 (mulf (Host.dotGeneral Cert.MmDxRefIdeal.dot_S8192x16384_S6144x16384_S8192x6144_1_1_0_0_n_n none A B)
    (broadcastInDim Cert.MmDxRefIdeal.S8192x6144 ![] Cert.MmDxRefIdeal.Gen.bcast_S_S8192x6144
      (mulf (mulf (shapeCast _ (extractStridedSlice Cert.MmDxRefIdeal.S1x1 ![0, 0] ta Cert.MmDxRefIdeal.Gen.slices_S8x128_S1x1_0_0) Cert.MmDxRefIdeal.Gen.shapeCasts_S1x1_S_)
        (shapeCast _ (extractStridedSlice Cert.MmDxRefIdeal.S1x1 ![0, 0] tb Cert.MmDxRefIdeal.Gen.slices_S8x128_S1x1_0_0) Cert.MmDxRefIdeal.Gen.shapeCasts_S1x1_S_))
        (constant Cert.MmDxRefIdeal.S_ .f32 0x3D000000#32)))) Cert.MmDxRefIdeal.Gen.bitsLt_bf16_f32

/-- The zero fill is zero everywhere. -/
theorem zero_apply (j) : k0_pay1 (F := Ideal) j = 0 := by pointwise [k0_pay1]

/-- One accumulation step: the accumulator plus the product of the two blocks over their 2048 shared lanes. -/
theorem step_apply (acc a b) (j : S1024x1024.Idx) :
    k0_pay2 (F := Ideal) acc a b j = acc j + ∑ k : Fin 2048, a (ix2 (j 0) k) * b (ix2 (j 1) k) := by
  pointwise [k0_pay2]

/-- The last step: the accumulator times both tensor scales and 1/32. -/
theorem scale_apply (v13 v14 acc) (j : S1024x1024.Idx) :
    k0_pay3 (F := Ideal) v13 v14 acc j
      = acc j * (v13 (ix2 0 0) * v14 (ix2 0 0) * FloatOps.ofBits (F := Ideal) .f32 0x3D000000#32) := by
  pointwise [k0_pay3]

/-- The reference at an index. -/
theorem ref_apply (A B ta tb) (j : S8192x6144.Idx) :
    REF A B ta tb j = (∑ k : Fin 16384, A (ix2 (j 0) k) * B (ix2 (j 1) k))
      * (ta (ix2 0 0) * tb (ix2 0 0) * FloatOps.ofBits (F := Ideal) .f32 0x3D000000#32) := by
  pointwise [REF]

/-- Every window's block index at a grid point, as arithmetic of the point's number. -/
theorem idx : ∀ t : Fin cfg0.N, win0_0.index t = ![t.val / 48, t.val % 8] ∧ win0_1.index t = ![t.val / 8 % 6, t.val % 8]
    ∧ win0_2.index t = ![0, 0] ∧ win0_3.index t = ![0, 0] ∧ win0_4.index t = ![t.val / 48, t.val / 8 % 6] ∧ t.val < 384 :=
  (by decide +kernel : ∀ t : Fin grid0.N, _)

/-- The accumulator (the carried scratch) after point `n`. -/
abbrev acc (c : Dev nD) (n : Nat) (h : n < cfg0.N) : FVec Ideal S1024x1024 .f32 := (outsAt0 m c n h).2

/-- At the first point of a run the accumulator is the zero fill with the first product added. -/
theorem acc_A (c : Dev nD) (t : Fin cfg0.N) (h0 : t.val % 8 = 0) :
    acc m c t.val t.isLt = k0_pay2 (F := Ideal) (k0_pay1 (F := Ideal)) (iblk m c 0 t) (iblk m c 1 t) := by
  rw [acc, outsAt0_A m c t h0 (by omega)]; frame_out

/-- At every other point of a run one product is added to what the point before left. -/
theorem acc_B (c : Dev nD) (t : Fin cfg0.N) (h0 : ¬t.val % 8 = 0) :
    acc m c t.val t.isLt = k0_pay2 (F := Ideal) (acc m c (t.val - 1) (Nat.lt_of_le_of_lt (Nat.sub_le _ _) t.isLt)) (iblk m c 0 t) (iblk m c 1 t) := by
  by_cases h1 : t.val % 8 = 7
  · rw [acc, outsAt0_C m c t h0 h1]; frame_out; rw [read_unread_whole]
  · rw [acc, outsAt0_B m c t h0 h1]; frame_out; rw [read_unread_whole]

/-- The block of the first tensor-scale array at point `t`. -/
abbrev ta (c : Dev nD) (t : Fin cfg0.N) : FVec Ideal S8x128 .f32 := iblk m c 2 t

/-- The block of the second tensor-scale array at point `t`. -/
abbrev tb (c : Dev nD) (t : Fin cfg0.N) : FVec Ideal S8x128 .f32 := iblk m c 3 t

/-- At the last point of a run the output block is the accumulator with the scales multiplied in. -/
theorem outs_C (c : Dev nD) (t : Fin cfg0.N) (h1 : t.val % 8 = 7) (j : S1024x1024.Idx) :
    ((outsAt0 m c t.val t.isLt).1 : FVec Ideal S1024x1024 .bf16) j
      = acc m c t.val t.isLt j * (ta m c t (ix2 0 0) * tb m c t (ix2 0 0) * FloatOps.ofBits (F := Ideal) .f32 0x3D000000#32) := by
  rw [acc_B m c t (by omega), outsAt0_C m c t (by omega) h1]; frame_out
  rw [scale_apply, read_unread_whole]
  have hr (X : FVec Ideal S8x128 .f32) :
      View.ld (Val := Elt Ideal) (e' := .f32) X (Rect.unit (s := S8x128) ![0, 0] S1x1.size inb_S8x128_S1x1_0_0) (ix2 0 0) = X (ix2 0 0) := by
    blk_ext! [View.ld] <;> rfl
  exact congrArg₂ (fun a b : EReal => k0_pay2 (F := Ideal) _ (iblk m c 0 t) (iblk m c 1 t) j * (a * b * _)) (hr _) (hr _)

/-- The accumulator at the last point of a run is the sum of the run's eight products. -/
theorem acc_eq (c : Dev nD) (t : Fin cfg0.N) (h1 : t.val % 8 = 8 - 1) (j : S1024x1024.Idx) :
    acc m c t.val t.isLt j = ∑ s : Fin 8, ∑ k : Fin 2048,
      (show FVec Ideal S1024x2048 .bf16 from iblk m c 0 ⟨8 * (t.val / 8) + s.val, Pipeline.run_point_lt_of_flush t h1 s⟩) (ix2 (j 0) k)
        * (show FVec Ideal S1024x2048 .bf16 from iblk m c 1 ⟨8 * (t.val / 8) + s.val, Pipeline.run_point_lt_of_flush t h1 s⟩) (ix2 (j 1) k) := by
  rw [Pipeline.eq_sum_fin_of_reset_step_apply_of_flush (fun n h => acc m c n h) 8 (fun _ => 0)
    (fun p j => ∑ k : Fin 2048, (show FVec Ideal S1024x2048 .bf16 from iblk m c 0 p) (ix2 (j 0) k)
      * (show FVec Ideal S1024x2048 .bf16 from iblk m c 1 p) (ix2 (j 1) k))
    (fun t h j => by
      show acc m c t.val t.isLt j = _
      rw [acc_A m c t h, step_apply, zero_apply])
    (fun t h j => by
      show acc m c t.val t.isLt j = acc m c (t.val - 1) _ j + _
      rw [acc_B m c t h, step_apply])
    t h1 j, zero_add]

/-- The scale blocks are the whole scale arrays. -/
theorem ta_eq (c : Dev nD) (t : Fin cfg0.N) : ta m c t = m ((c : Thread nD τ).loc main_arg2) := by
  blk_ext! [ta, iblk, V, idx t]

/-- The scale blocks are the whole scale arrays. -/
theorem tb_eq (c : Dev nD) (t : Fin cfg0.N) : tb m c t = m ((c : Thread nD τ).loc main_arg3) := by
  blk_ext! [tb, iblk, V, idx t]

/-- The blocks of the output window cover its array. -/
theorem covers : (cfg0.win 4).Covers := by
  refine Pipeline.Window.covers_of_indexMap_surj (w := cfg0.win 4) rfl (by decide) ?_
  decide +kernel

/-- The result array after the run is the reference's term of the four arguments. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ covers fun t hf y => ?_
  blk_simp
  have h1 := (flush0_4 t).mp hf
  rw [after0_4, outs_C m c t h1, acc_eq m c t h1, ref_apply, ta_eq, tb_eq]
  refine congrArg₂ (fun a b : EReal => a * b) ?_ rfl
  refine Fin.sum_mul_add_congr fun s k hl => ?_
  blk_point [iblk, V, idx t, idx ⟨_, Pipeline.run_point_lt_of_flush t h1 s⟩]

end Cert.MmDxIdeal.Hand
-- ==== Proof.MmDxClaims.lean ====
module

public import proofs.«01_k».proof.Defs
public import proofs.«01_k».proof.Proof.Gen.MmDx.Frame
public import proofs.«01_k».proof.Proof.MmDxValue
public import Idealize.ShloMosaic.Lib.Tactic
public import Idealize.ShloMosaic.Lib.Quiescent

@[expose] public section

set_option maxRecDepth 16384

/-! The claims about the call `MmDx`. -/

noncomputable section

namespace Cert.Proof.MmDxClaims

open Idealize.ShloMosaic Idealize.ShloMosaic.TcCoe Idealize.SL.Sem

/-- The kernel program runs to an end and leaves its arguments and all counters as they were. -/
theorem frame_p : Cert.quiescent_MmDx := fun m ρ _ => Cert.MmDx.Gen.frame m ρ

/-- The same of its idealization. -/
theorem frame_pi : Cert.quiescent_MmDxIdeal := fun m ρ _ => Cert.MmDxIdeal.Gen.frame m ρ

/-- The same of the reference. -/
theorem frame_ri : Cert.quiescent_MmDxRefIdeal := fun m ρ _ =>
  (θ_run Cert.MmDxRefIdeal.defs _ _).mono (fun r h => ⟨fun c => (h c).2,
      Idealize.ShloMosaic.sem_eq_zero_of_no_sems (by decide) r.2⟩)
    (Cert.MmDxRefIdeal.Value.run (F := Ideal) m ρ)

/-- The idealization rewrote nothing. -/
theorem preserves : Cert.preserves_MmDx_MmDxIdeal := trivial

/-- Over the extended reals the kernel and the reference end with equal results. -/
theorem algebraic : Cert.algebraic_MmDxIdeal_MmDxRefIdeal := by
  intro m ρ m' ρ' _ hagree
  refine ⟨fun c => Cert.MmDxIdeal.Hand.REF (m ((c : Thread Cert.MmDxIdeal.nD Cert.MmDxIdeal.τ).loc Cert.MmDxIdeal.main_arg0)) (m ((c : Thread Cert.MmDxIdeal.nD Cert.MmDxIdeal.τ).loc Cert.MmDxIdeal.main_arg1))
      (m ((c : Thread Cert.MmDxIdeal.nD Cert.MmDxIdeal.τ).loc Cert.MmDxIdeal.main_arg2)) (m ((c : Thread Cert.MmDxIdeal.nD Cert.MmDxIdeal.τ).loc Cert.MmDxIdeal.main_arg3)), ?_, ?_⟩
  · refine (θ_run Cert.MmDxIdeal.defs _ _).mono (fun _ h c => ?_) (Cert.MmDxIdeal.Value.run_blocks (F := Ideal) m ρ)
    exact ⟨(h c).1.trans (Cert.MmDxIdeal.Hand.final m c), (h c).2⟩
  · refine (θ_run Cert.MmDxRefIdeal.defs _ _).mono (fun _ h c => ?_) (Cert.MmDxRefIdeal.Value.run (F := Ideal) m' ρ')
    refine ⟨(h c).1.trans ?_, (h c).2⟩
    obtain ⟨h0, h1, h2, h3⟩ := hagree c
    rw [h0, h1, h2, h3]

end Cert.Proof.MmDxClaims

end
-- ==== Proof.MmDwValue.lean ====
module

public import proofs.«01_k».proof.Proof.Gen.MmDwIdeal.Value
public import proofs.«01_k».proof.Proof.Gen.MmDwRefIdeal.Run
public import Idealize.ShloMosaic.Lib.Pipeline.ValueKit
public import Idealize.ShloMosaic.Lib.Pipeline.Covers

@[expose] public section

set_option maxRecDepth 16384

/-! The weight-gradient product `mm_dw`: the array it leaves is the reference's term of its four arguments. -/

noncomputable section

namespace Cert.MmDwIdeal.Hand

open Cert.MmDwIdeal Cert.MmDwIdeal.Gen Idealize.ShloMosaic Idealize.ShloMosaic.TcCoe Idealize.SL.Sem
open Idealize.ShloMosaic.Pipeline (Dat)

variable (m : (ℓ : Loc nD τ sig) → Buf (Elt Ideal) ℓ)

/-- The reference's composed term: the product of the operands, times the two tensor scales and 1/32. -/
abbrev REF (A : FVec Ideal S6144x8192 .bf16) (B : FVec Ideal S8192x16384 .bf16) (ta tb : FVec Ideal S8x128 .f32) :
    FVec Ideal S6144x16384 .f32 :=
  mulf (Host.dotGeneral Cert.MmDwRefIdeal.dot_S6144x8192_S8192x16384_S6144x16384_1_0_0_1_n_n none A B)
    (broadcastInDim Cert.MmDwRefIdeal.S6144x16384 ![] Cert.MmDwRefIdeal.Gen.bcast_S_S6144x16384
      (mulf (mulf (shapeCast _ (extractStridedSlice Cert.MmDwRefIdeal.S1x1 ![0, 0] ta Cert.MmDwRefIdeal.Gen.slices_S8x128_S1x1_0_0) Cert.MmDwRefIdeal.Gen.shapeCasts_S1x1_S_)
        (shapeCast _ (extractStridedSlice Cert.MmDwRefIdeal.S1x1 ![0, 0] tb Cert.MmDwRefIdeal.Gen.slices_S8x128_S1x1_0_0) Cert.MmDwRefIdeal.Gen.shapeCasts_S1x1_S_))
        (constant Cert.MmDwRefIdeal.S_ .f32 0x3D000000#32)))

/-- The zero fill is zero everywhere. -/
theorem zero_apply (j) : k0_pay1 (F := Ideal) j = 0 := by pointwise [k0_pay1]

/-- One accumulation step: the accumulator plus the product of the two blocks over their 2048 shared lanes. -/
theorem step_apply (acc a b) (j : S1024x1024.Idx) :
    k0_pay2 (F := Ideal) acc a b j = acc j + ∑ k : Fin 2048, a (ix2 (j 0) k) * b (ix2 k (j 1)) := by
  pointwise [k0_pay2]

/-- The last step: the accumulator times both tensor scales and 1/32. -/
theorem scale_apply (v13 v14 acc) (j : S1024x1024.Idx) :
    k0_pay3 (F := Ideal) v13 v14 acc j
      = acc j * (v13 (ix2 0 0) * v14 (ix2 0 0) * FloatOps.ofBits (F := Ideal) .f32 0x3D000000#32) := by
  pointwise [k0_pay3]

/-- The reference at an index. -/
theorem ref_apply (A B ta tb) (j : S6144x16384.Idx) :
    REF A B ta tb j = (∑ k : Fin 8192, A (ix2 (j 0) k) * B (ix2 k (j 1)))
      * (ta (ix2 0 0) * tb (ix2 0 0) * FloatOps.ofBits (F := Ideal) .f32 0x3D000000#32) := by
  pointwise [REF]

/-- Every window's block index at a grid point, as arithmetic of the point's number. -/
theorem idx : ∀ t : Fin cfg0.N, win0_0.index t = ![t.val / 64, t.val % 4] ∧ win0_1.index t = ![t.val % 4, t.val / 4 % 16]
    ∧ win0_2.index t = ![0, 0] ∧ win0_3.index t = ![0, 0] ∧ win0_4.index t = ![t.val / 64, t.val / 4 % 16] ∧ t.val < 384 :=
  (by decide +kernel : ∀ t : Fin grid0.N, _)

/-- The accumulator after point `n`, before the scales are multiplied in at the last point of a run. -/
def acc (c : Dev nD) (n : Nat) (h : n < cfg0.N) : FVec Ideal S1024x1024 .f32 :=
  if n % 4 = 3 then
    k0_pay2 (F := Ideal) (outsAt0 m c (n - 1) (Nat.lt_of_le_of_lt (Nat.sub_le _ _) h)) (iblk m c 0 ⟨n, h⟩) (iblk m c 1 ⟨n, h⟩)
  else outsAt0 m c n h

/-- At the first point of a run the block is the zero fill with the first product added. -/
theorem outs_A (c : Dev nD) (t : Fin cfg0.N) (h0 : t.val % 4 = 0) :
    outsAt0 m c t.val t.isLt = k0_pay2 (F := Ideal) (k0_pay1 (F := Ideal)) (iblk m c 0 t) (iblk m c 1 t) := by
  rw [outsAt0_A m c t h0 (by omega)]; frame_out

/-- At a middle point of a run one product is added to what the point before left. -/
theorem outs_B (c : Dev nD) (t : Fin cfg0.N) (h0 : ¬t.val % 4 = 0) (h1 : ¬t.val % 4 = 3) :
    outsAt0 m c t.val t.isLt = k0_pay2 (F := Ideal) (outsAt0 m c (t.val - 1) (Nat.lt_of_le_of_lt (Nat.sub_le _ _) t.isLt)) (iblk m c 0 t) (iblk m c 1 t) := by
  rw [outsAt0_B m c t h0 h1]; frame_out

/-- The block of the first tensor-scale array at point `t`. -/
abbrev ta (c : Dev nD) (t : Fin cfg0.N) : FVec Ideal S8x128 .f32 := iblk m c 2 t

/-- The block of the second tensor-scale array at point `t`. -/
abbrev tb (c : Dev nD) (t : Fin cfg0.N) : FVec Ideal S8x128 .f32 := iblk m c 3 t

/-- At the last point of a run the last product is added and the scales are multiplied in. -/
theorem outs_C (c : Dev nD) (t : Fin cfg0.N) (h1 : t.val % 4 = 3) (j : S1024x1024.Idx) :
    (outsAt0 m c t.val t.isLt : FVec Ideal S1024x1024 .f32) j
      = acc m c t.val t.isLt j * (ta m c t (ix2 0 0) * tb m c t (ix2 0 0) * FloatOps.ofBits (F := Ideal) .f32 0x3D000000#32) := by
  rw [outsAt0_C m c t (by omega) h1]; frame_out
  rw [scale_apply, acc, if_pos h1]
  have hr (X : FVec Ideal S8x128 .f32) :
      View.ld (Val := Elt Ideal) (e' := .f32) X (Rect.unit (s := S8x128) ![0, 0] S1x1.size inb_S8x128_S1x1_0_0) (ix2 0 0) = X (ix2 0 0) := by
    blk_ext! [View.ld] <;> rfl
  exact congrArg₂ (fun a b : EReal => k0_pay2 (F := Ideal) _ (iblk m c 0 t) (iblk m c 1 t) j * (a * b * _)) (hr _) (hr _)

/-- The accumulator at the last point of a run is the sum of the run's four products. -/
theorem acc_eq (c : Dev nD) (t : Fin cfg0.N) (h1 : t.val % 4 = 4 - 1) (j : S1024x1024.Idx) :
    acc m c t.val t.isLt j = ∑ s : Fin 4, ∑ k : Fin 2048,
      (show FVec Ideal S1024x2048 .bf16 from iblk m c 0 ⟨4 * (t.val / 4) + s.val, Pipeline.run_point_lt_of_flush t h1 s⟩) (ix2 (j 0) k)
        * (show FVec Ideal S2048x1024 .bf16 from iblk m c 1 ⟨4 * (t.val / 4) + s.val, Pipeline.run_point_lt_of_flush t h1 s⟩) (ix2 k (j 1)) := by
  rw [Pipeline.eq_sum_fin_of_reset_step_apply_of_flush (fun n h => acc m c n h) 4 (fun _ => 0)
    (fun p j => ∑ k : Fin 2048, (show FVec Ideal S1024x2048 .bf16 from iblk m c 0 p) (ix2 (j 0) k)
      * (show FVec Ideal S2048x1024 .bf16 from iblk m c 1 p) (ix2 k (j 1)))
    (fun t h j => by
      show acc m c t.val t.isLt j = _
      rw [acc, if_neg (by omega), outs_A m c t h, step_apply, zero_apply])
    (fun t h j => by
      show acc m c t.val t.isLt j = acc m c (t.val - 1) _ j + _
      by_cases h3 : t.val % 4 = 3
      · rw [acc, if_pos h3, step_apply, acc, if_neg (by omega)]
      · rw [acc, if_neg h3, outs_B m c t h h3, step_apply, acc, if_neg (by omega)])
    t h1 j, zero_add]

/-- The scale blocks are the whole scale arrays. -/
theorem ta_eq (c : Dev nD) (t : Fin cfg0.N) : ta m c t = m ((c : Thread nD τ).loc main_arg2) := by
  blk_ext! [ta, iblk, V, idx t]

/-- The scale blocks are the whole scale arrays. -/
theorem tb_eq (c : Dev nD) (t : Fin cfg0.N) : tb m c t = m ((c : Thread nD τ).loc main_arg3) := by
  blk_ext! [tb, iblk, V, idx t]

/-- The blocks of the output window cover its array. -/
theorem covers : (cfg0.win 4).Covers := by
  refine Pipeline.Window.covers_of_indexMap_surj (w := cfg0.win 4) rfl (by decide) ?_
  decide +kernel

/-- The result array after the run is the reference's term of the four arguments. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ covers fun t hf y => ?_
  blk_simp
  have h1 := (flush0_4 t).mp hf
  rw [after0_4, outs_C m c t h1, acc_eq m c t h1, ref_apply, ta_eq, tb_eq]
  refine congrArg₂ (fun a b : EReal => a * b) ?_ rfl
  refine Fin.sum_mul_add_congr fun s k hl => ?_
  blk_point [iblk, V, idx t, idx ⟨_, Pipeline.run_point_lt_of_flush t h1 s⟩]

end Cert.MmDwIdeal.Hand
-- ==== Proof.MmDwClaims.lean ====
module

public import proofs.«01_k».proof.Defs
public import proofs.«01_k».proof.Proof.Gen.MmDw.Frame
public import proofs.«01_k».proof.Proof.MmDwValue
public import Idealize.ShloMosaic.Lib.Tactic
public import Idealize.ShloMosaic.Lib.Quiescent

@[expose] public section

set_option maxRecDepth 16384

/-! The claims about the call `MmDw`. -/

noncomputable section

namespace Cert.Proof.MmDwClaims

open Idealize.ShloMosaic Idealize.ShloMosaic.TcCoe Idealize.SL.Sem

/-- The kernel program runs to an end and leaves its arguments and all counters as they were. -/
theorem frame_p : Cert.quiescent_MmDw := fun m ρ _ => Cert.MmDw.Gen.frame m ρ

/-- The same of its idealization. -/
theorem frame_pi : Cert.quiescent_MmDwIdeal := fun m ρ _ => Cert.MmDwIdeal.Gen.frame m ρ

/-- The same of the reference. -/
theorem frame_ri : Cert.quiescent_MmDwRefIdeal := fun m ρ _ =>
  (θ_run Cert.MmDwRefIdeal.defs _ _).mono (fun r h => ⟨fun c => (h c).2,
      Idealize.ShloMosaic.sem_eq_zero_of_no_sems (by decide) r.2⟩)
    (Cert.MmDwRefIdeal.Value.run (F := Ideal) m ρ)

/-- The idealization rewrote nothing. -/
theorem preserves : Cert.preserves_MmDw_MmDwIdeal := trivial

/-- Over the extended reals the kernel and the reference end with equal results. -/
theorem algebraic : Cert.algebraic_MmDwIdeal_MmDwRefIdeal := by
  intro m ρ m' ρ' _ hagree
  refine ⟨fun c => Cert.MmDwIdeal.Hand.REF (m ((c : Thread Cert.MmDwIdeal.nD Cert.MmDwIdeal.τ).loc Cert.MmDwIdeal.main_arg0)) (m ((c : Thread Cert.MmDwIdeal.nD Cert.MmDwIdeal.τ).loc Cert.MmDwIdeal.main_arg1))
      (m ((c : Thread Cert.MmDwIdeal.nD Cert.MmDwIdeal.τ).loc Cert.MmDwIdeal.main_arg2)) (m ((c : Thread Cert.MmDwIdeal.nD Cert.MmDwIdeal.τ).loc Cert.MmDwIdeal.main_arg3)), ?_, ?_⟩
  · refine (θ_run Cert.MmDwIdeal.defs _ _).mono (fun _ h c => ?_) (Cert.MmDwIdeal.Value.run_blocks (F := Ideal) m ρ)
    exact ⟨(h c).1.trans (Cert.MmDwIdeal.Hand.final m c), (h c).2⟩
  · refine (θ_run Cert.MmDwRefIdeal.defs _ _).mono (fun _ h c => ?_) (Cert.MmDwRefIdeal.Value.run (F := Ideal) m' ρ')
    refine ⟨(h c).1.trans ?_, (h c).2⟩
    obtain ⟨h0, h1, h2, h3⟩ := hagree c
    rw [h0, h1, h2, h3]

end Cert.Proof.MmDwClaims

end
-- ==== Proof.HadWord.lean ====
module

public import Idealize.ShloMosaic.Init
public import Mathlib.Tactic.IntervalCases

@[expose] public section

set_option maxRecDepth 16384

/-! The entries of the two arranged 256×256 Hadamard matrices, as arithmetic of the row and column numbers. -/

namespace Cert.Had

/-- Whether two numbers below 32 have an odd number of binary ones in common. -/
def odd (a b : Nat) : Bool :=
  (((a &&& b) + (a &&& b) / 2 + (a &&& b) / 4 + (a &&& b) / 8 + (a &&& b) / 16) % 2 == 1)

/-- The token whose rotated value row `r` of the row matrix makes. -/
def tok (r : Nat) : Nat := r / 64 * 64 + r % 8 / 2 * 16 + r % 2 * 8 + r % 64 / 8

/-- The lane whose rotated value column `c` of the column matrix makes. -/
def lane (c : Nat) : Nat := c % 16 * 16 + 2 * (c % 128 / 16) + c / 128

/-- A Hadamard entry as the word of its half-precision sign. -/
def sgn (a b : Nat) : BitVec 16 := bif odd a b then 0xBF80#16 else 0x3F80#16

/-- The word at row `r`, column `k` of the row matrix: block `tok r / 32` of the row holds the Hadamard column `tok r % 32`. -/
def wordR (r k : Nat) : BitVec 16 := bif k / 32 == tok r / 32 then sgn (k % 32) (tok r % 32) else 0#16

/-- The word at row `k`, column `c` of the column matrix: block `lane c / 32` of the column holds the Hadamard column `lane c % 32`. -/
def wordC (k c : Nat) : BitVec 16 := bif k / 32 == lane c / 32 then sgn (k % 32) (lane c % 32) else 0#16

/-- The `x`-th of 128 choices; none from the 128th on. -/
def sel (x : Nat) (w : Nat → BitVec 16) : BitVec 16 := match x with
  | 0 => w 0
  | 1 => w 1
  | 2 => w 2
  | 3 => w 3
  | 4 => w 4
  | 5 => w 5
  | 6 => w 6
  | 7 => w 7
  | 8 => w 8
  | 9 => w 9
  | 10 => w 10
  | 11 => w 11
  | 12 => w 12
  | 13 => w 13
  | 14 => w 14
  | 15 => w 15
  | 16 => w 16
  | 17 => w 17
  | 18 => w 18
  | 19 => w 19
  | 20 => w 20
  | 21 => w 21
  | 22 => w 22
  | 23 => w 23
  | 24 => w 24
  | 25 => w 25
  | 26 => w 26
  | 27 => w 27
  | 28 => w 28
  | 29 => w 29
  | 30 => w 30
  | 31 => w 31
  | 32 => w 32
  | 33 => w 33
  | 34 => w 34
  | 35 => w 35
  | 36 => w 36
  | 37 => w 37
  | 38 => w 38
  | 39 => w 39
  | 40 => w 40
  | 41 => w 41
  | 42 => w 42
  | 43 => w 43
  | 44 => w 44
  | 45 => w 45
  | 46 => w 46
  | 47 => w 47
  | 48 => w 48
  | 49 => w 49
  | 50 => w 50
  | 51 => w 51
  | 52 => w 52
  | 53 => w 53
  | 54 => w 54
  | 55 => w 55
  | 56 => w 56
  | 57 => w 57
  | 58 => w 58
  | 59 => w 59
  | 60 => w 60
  | 61 => w 61
  | 62 => w 62
  | 63 => w 63
  | 64 => w 64
  | 65 => w 65
  | 66 => w 66
  | 67 => w 67
  | 68 => w 68
  | 69 => w 69
  | 70 => w 70
  | 71 => w 71
  | 72 => w 72
  | 73 => w 73
  | 74 => w 74
  | 75 => w 75
  | 76 => w 76
  | 77 => w 77
  | 78 => w 78
  | 79 => w 79
  | 80 => w 80
  | 81 => w 81
  | 82 => w 82
  | 83 => w 83
  | 84 => w 84
  | 85 => w 85
  | 86 => w 86
  | 87 => w 87
  | 88 => w 88
  | 89 => w 89
  | 90 => w 90
  | 91 => w 91
  | 92 => w 92
  | 93 => w 93
  | 94 => w 94
  | 95 => w 95
  | 96 => w 96
  | 97 => w 97
  | 98 => w 98
  | 99 => w 99
  | 100 => w 100
  | 101 => w 101
  | 102 => w 102
  | 103 => w 103
  | 104 => w 104
  | 105 => w 105
  | 106 => w 106
  | 107 => w 107
  | 108 => w 108
  | 109 => w 109
  | 110 => w 110
  | 111 => w 111
  | 112 => w 112
  | 113 => w 113
  | 114 => w 114
  | 115 => w 115
  | 116 => w 116
  | 117 => w 117
  | 118 => w 118
  | 119 => w 119
  | 120 => w 120
  | 121 => w 121
  | 122 => w 122
  | 123 => w 123
  | 124 => w 124
  | 125 => w 125
  | 126 => w 126
  | 127 => w 127
  | _ => 0#16

/-- `sel` chooses. -/
theorem sel_lt (w : Nat → BitVec 16) (x : Nat) (h : x < 128) : sel x w = w x := by
  interval_cases x <;> rfl

/-- The table of 16384 entries from the `16384 * q`-th on, read through its two last base-128 digits. -/
def node (q : Nat) (w : Nat → BitVec 16) (i : Nat) : BitVec 16 :=
  sel (i / 128 % 128) fun a => sel (i % 128) fun b => w (16384 * q + 128 * a + b)

/-- `node` reads the table at the number given. -/
theorem node_eq (q : Nat) (w : Nat → BitVec 16) (i : Nat) (h : i / 16384 = q) : node q w i = w i := by
  rw [node, sel_lt _ _ (Nat.mod_lt _ (by decide)), sel_lt _ _ (Nat.mod_lt _ (by decide))]
  exact congrArg w (by omega)

end Cert.Had
-- ==== Proof.HadSum.lean ====
module

public import proofs.«01_k».proof.Proof.HadWord
public import Idealize.ShloMosaic.Lib.IdealHost
public import Idealize.ShloMosaic.Lib.Pipeline.ValueKit

@[expose] public section

set_option maxRecDepth 16384

/-! The arranged Hadamard matrices over the extended reals: a row (column) of the arranged matrix times a vector of 256
values is the plain 32-term Hadamard sum over one group of 32 of them. -/

noncomputable section

namespace Cert.Had

open Idealize.ShloMosaic

/-- The Hadamard sign at `(a, b)`: minus one when `a` and `b` have an odd number of binary ones in common. -/
def hv (a b : Nat) : EReal := bif odd a b then -1 else 1

/-- The word of a sign reads as the sign. -/
theorem ofBits_sgn (a b : Nat) : Ideal.ofBits .bf16 (sgn a b) = hv a b := by
  rw [sgn, hv]
  cases odd a b
  · exact Ideal.ofBits_one_bf16
  · exact IdealRules.sign_bit.ideal_negOnePat .bf16

/-- The value at row `r`, column `k` of the row matrix. -/
theorem ofBits_wordR (r k : Nat) :
    Ideal.ofBits .bf16 (wordR r k) = if k / 32 = tok r / 32 then hv (k % 32) (tok r % 32) else 0 := by
  rw [wordR]
  by_cases h : k / 32 = tok r / 32
  · rw [if_pos h, h, beq_self_eq_true, cond_true, ofBits_sgn]
  · rw [if_neg h, beq_false_of_ne h, cond_false, Ideal.ofBits_zero_bf16]

/-- The value at row `k`, column `c` of the column matrix. -/
theorem ofBits_wordC (k c : Nat) :
    Ideal.ofBits .bf16 (wordC k c) = if k / 32 = lane c / 32 then hv (k % 32) (lane c % 32) else 0 := by
  rw [wordC]
  by_cases h : k / 32 = lane c / 32
  · rw [if_pos h, h, beq_self_eq_true, cond_true, ofBits_sgn]
  · rw [if_neg h, beq_false_of_ne h, cond_false, Ideal.ofBits_zero_bf16]

/-- Of 256 terms that vanish outside group `a` of 32, the group's 32 remain. -/
theorem sum_group (a : Fin 8) (f : Fin 256 → EReal) (h : ∀ k : Fin 256, k.val / 32 ≠ a.val → f k = 0) :
    ∑ k : Fin 256, f k = ∑ i : Fin 32, f ⟨a.val * 32 + i.val, by omega⟩ := by
  have e := Fin.sum_mul_add_fin (M := EReal) 8 (n := 32) f rfl
  rw [← e]
  refine Finset.sum_eq_single a (fun b _ hb => Finset.sum_eq_zero fun i _ => h _ ?_) (fun ha => absurd (Finset.mem_univ a) ha)
  intro he
  apply hb
  apply Fin.ext
  have := b.isLt
  have := i.isLt
  simp only at he
  omega

/-- The token of a row lies in the block. -/
theorem tok_lt (r : Nat) (h : r < 256) : tok r < 256 := by unfold tok; omega
/-- The feature of a column lies in the block. -/
theorem lane_lt (r : Nat) (h : r < 256) : lane r < 256 := by unfold lane; omega

/-- Every token is some row's. -/
theorem tok_surj : ∀ s : Fin 256, ∃ r : Fin 256, tok r.val = s.val := by decide +kernel

/-- Every lane is some column's. -/
theorem lane_surj : ∀ s : Fin 256, ∃ r : Fin 256, lane r.val = s.val := by decide +kernel

/-- A row of the row matrix times 256 values. -/
theorem sum_wordR (r : Nat) (hr : r < 256) (x : Fin 256 → EReal) :
    ∑ k : Fin 256, Ideal.ofBits .bf16 (wordR r k.val) * x k
      = ∑ i : Fin 32, hv i.val (tok r % 32) * x ⟨tok r / 32 * 32 + i.val, by have := tok_lt r hr; omega⟩ := by
  rw [sum_group ⟨tok r / 32, by have := tok_lt r hr; omega⟩ _ (fun k hk => by rw [ofBits_wordR, if_neg hk, zero_mul])]
  refine Finset.sum_congr rfl fun i _ => ?_
  have := i.isLt
  rw [ofBits_wordR, if_pos (by simp only; omega)]
  exact congrArg (fun z => hv z _ * _) (by simp only; omega)

/-- 256 values times a column of the column matrix. -/
theorem sum_wordC (c : Nat) (hc : c < 256) (x : Fin 256 → EReal) :
    ∑ k : Fin 256, x k * Ideal.ofBits .bf16 (wordC k.val c)
      = ∑ i : Fin 32, x ⟨lane c / 32 * 32 + i.val, by have := lane_lt c hc; omega⟩ * hv i.val (lane c % 32) := by
  rw [sum_group ⟨lane c / 32, by have := lane_lt c hc; omega⟩ _ (fun k hk => by rw [ofBits_wordC, if_neg hk, mul_zero])]
  refine Finset.sum_congr rfl fun i _ => ?_
  have := i.isLt
  rw [ofBits_wordC, if_pos (by simp only; omega)]
  exact congrArg (fun z => _ * hv z _) (by simp only; omega)

end Cert.Had
-- ==== Proof.HadMax.lean ====
module

public import proofs.«01_k».proof.Proof.HadSum
public import Idealize.ShloMosaic.Lib.Pointwise.Tactic
public import Idealize.ShloMosaic.Lib.Pipeline.ValueKit

@[expose] public section

set_option maxRecDepth 16384

/-! Maxima over the extended reals, read by their upper bounds, and the tensor scale of one. -/

noncomputable section

namespace Cert.Had

open Idealize.ShloMosaic

/-- The word of minus infinity. -/
theorem ofBits_neg_inf : Ideal.ofBits .f32 0xFF800000#32 = ⊥ := by
  simp [Ideal.ofBits, Ideal.ieee]

/-- A maximum from minus infinity is at most `b` when every entry is. -/
theorem fold_le {ι : Type} [Fintype ι] (f : ι → EReal) (b : EReal) :
    Finset.univ.fold max (Ideal.ofBits .f32 0xFF800000#32) f ≤ b ↔ ∀ x, f x ≤ b := by
  rw [Finset.fold_max_le, ofBits_neg_inf]
  simp

/-- An absolute value is not negative. -/
theorem abs_nonneg (x : EReal) : 0 ≤ FloatOps.absf (F := Ideal) (φ := .f32) x := by
  show (0 : EReal) ≤ max x (-x)
  rcases le_total 0 x with h | h
  · exact le_max_of_le_left h
  · exact le_max_of_le_right (by simpa using EReal.neg_le_neg_iff.mpr h)

/-- One minus twice the parity of the common ones, as a 32-bit word. -/
theorem sign_word : ∀ i j : Fin 32, (IntOp.subi (1#32) (IntOp.muli (2#32) (IntOp.andi (IntOp.ctpop (IntOp.andi (BitVec.ofNat 32 i.val) (BitVec.ofNat 32 j.val))) 1#32)))
   = bif odd i.val j.val then -1#32 else 1#32 := by decide +kernel

/-- The same word converted to a number is the Hadamard sign. -/
theorem sign_val (i j : Fin 32) : FloatOps.sitofp (F := Ideal) .f32 (IntOp.subi (1#32) (IntOp.muli (2#32) (IntOp.andi (IntOp.ctpop (IntOp.andi (BitVec.ofNat 32 i.val) (BitVec.ofNat 32 j.val))) 1#32)))
   = hv i.val j.val := by
  rw [sign_word, hv]
  cases odd i.val j.val
  · show (((1#32 : BitVec 32).toInt : ℝ) : EReal) = 1
    simp
  · show (((-1#32 : BitVec 32).toInt : ℝ) : EReal) = -1
    simp

end Cert.Had
-- ==== Proof.HadX.lean ====
module

public import proofs.«01_k».proof.Proof.HadWord
public import proofs.«01_k».proof.AmaxXIdeal
public import Idealize.ShloMosaic.Lib.Tactic

@[expose] public section

set_option maxRecDepth 65536

/-! The matrix constant of the call, entry by entry. -/

noncomputable section

namespace Cert.AmaxXIdeal.HadLit

open Cert.AmaxXIdeal Cert.Had Idealize.ShloMosaic

/-- The table's word number `256 r + k`. -/
abbrev wr (n : Nat) : BitVec 16 := wordR (n / 256) (n % 256)

/-- Entries 0–16383. -/
theorem lit0_0 : lit0t1_0 = node 0 wr := by sl_kernel_rfl

/-- Entries 16384–32767. -/
theorem lit0_1 : lit0t1_1 = node 1 wr := by sl_kernel_rfl

/-- Entries 32768–49151. -/
theorem lit0_2 : lit0t1_2 = node 2 wr := by sl_kernel_rfl

/-- Entries 49152–65535. -/
theorem lit0_3 : lit0t1_3 = node 3 wr := by sl_kernel_rfl

/-- The table's word number `i`. -/
theorem lit0t_eq (i : Nat) (h : i < 65536) : lit0t i = wr i := by
  have h4 : i / 16384 < 4 := by omega
  unfold lit0t
  split
  case h_1 e => rw [lit0_0, node_eq _ _ _ e]
  case h_2 e => rw [lit0_1, node_eq _ _ _ e]
  case h_3 e => rw [lit0_2, node_eq _ _ _ e]
  case h_4 e => rw [lit0_3, node_eq _ _ _ e]
  case h_5 e0 e1 e2 e3 =>
    exfalso
    obtain e | e | e | e : i / 16384 = 0 ∨ i / 16384 = 1 ∨ i / 16384 = 2 ∨ i / 16384 = 3 := by omega
    · exact e0 e
    · exact e1 e
    · exact e2 e
    · exact e3 e

/-- The matrix constant at row `r`, column `k`. -/
theorem lit0_apply (i : S256x256.Idx) : lit0 (S256x256.rowMajor i) = wordR (i 0).val (i 1).val := by
  have e : (S256x256.rowMajor i).val = (i 0).val * 256 + (i 1).val := Shape.rowMajor_val_two i
  have h0 : (i 0).val < 256 := (i 0).isLt
  have h1 : (i 1).val < 256 := (i 1).isLt
  show lit0t (S256x256.rowMajor i).val = _
  rw [lit0t_eq _ (S256x256.rowMajor i).isLt, e]
  show wordR _ _ = _
  rw [show ((i 0).val * 256 + (i 1).val) / 256 = (i 0).val by omega, show ((i 0).val * 256 + (i 1).val) % 256 = (i 1).val by omega]

end Cert.AmaxXIdeal.HadLit
-- ==== Proof.AmaxXStep.lean ====
module

public import proofs.«01_k».proof.Proof.HadMax
public import proofs.«01_k».proof.Proof.HadX
public import proofs.«01_k».proof.Proof.Gen.AmaxXIdeal.Value
public import Idealize.ShloMosaic.Lib.Pipeline.ValueKit
public import Idealize.ShloMosaic.Lib.Pipeline.ReadBack
public import Idealize.ShloMosaic.Lib.Pipeline.Covers

@[expose] public section

set_option maxRecDepth 16384

/-! The column-group maximum of the activations: what one grid point does to the running maxima. -/

noncomputable section

namespace Cert.AmaxXIdeal.Hand

open Cert.AmaxXIdeal Cert.AmaxXIdeal.Gen Cert.Had Idealize.ShloMosaic Idealize.ShloMosaic.TcCoe Idealize.SL.Sem
open Idealize.ShloMosaic.Pipeline (Dat)

variable (m : (ℓ : Loc nD τ sig) → Buf (Elt Ideal) ℓ)

/-- One tile: the running maxima against the absolute values of the matrix times the tile, folded to eight rows. -/
def step (H : FVec Ideal S256x256 .bf16) (acc : FVec Ideal S8x256 .f32) (B : FVec Ideal S256x256 .bf16) : FVec Ideal S8x256 .f32 :=
  maximumf acc (multiReduction .maximumf [0] S8x256 (absf (shapeCast S32x8x256 (matmul dot_S256x256_S256x256_S256x256_1_0_0_1_n_n none H B
    (constant S256x256 .f32 0x00000000#32)) shapeCasts_S256x256_S32x8x256)) 0xFF800000#32 reduces_S32x8x256_S8x256 (.inl rfl) rfl)

/-- The running maxima this payload stores: the blocks it is given, taken in one after the other by `step`. -/
theorem pay1_eq (H acc B) : k0_pay1 (F := Ideal) acc (k0_pay9 H B) = step H acc B := by
  unfold k0_pay1 k0_pay9 step
  simp only [shapeCast_self]

/-- The running maxima this payload stores: the blocks it is given, taken in one after the other by `step`. -/
theorem pay4_eq (H acc B0 B1 B2) : k0_pay4 (F := Ideal) H acc B0 B1 B2 = step H (step H (step H acc B0) B1) B2 := rfl

/-- The running maxima this payload stores: the blocks it is given, taken in one after the other by `step`. -/
theorem pay6_eq (H acc B3 B4 B5 B6 B7 B8) : k0_pay6 (F := Ideal) H acc (k0_pay5 H B3) B4 B5 B6 B7 B8
    = step H (step H (step H (step H (step H (step H acc B3) B4) B5) B6) B7) B8 := rfl

/-- The running maxima this payload stores: the blocks it is given, taken in one after the other by `step`. -/
theorem pay8_eq (H acc B3 B4 B5 B6 B7 B8) : k0_pay8 (F := Ideal) H acc (k0_pay7 H B3) B4 B5 B6 B7 B8
    = step H (step H (step H (step H (step H (step H acc B3) B4) B5) B6) B7) B8 := rfl

/-- A tile's step as a fold over the 32 products that meet at one running maximum. -/
theorem step_apply (H acc B) (j : S8x256.Idx) : step H acc B j = max (acc j)
    (Finset.fold max (Ideal.ofBits .f32 0xFF800000#32) (fun q : Fin 32 => FloatOps.absf (F := Ideal) (φ := .f32)
      (∑ k : Fin 256, H (ix2 ⟨q.val * 8 + (j 0).val, by have : (j 0).val < 8 := (j 0).isLt; omega⟩ k) * B (ix2 k (j 1)))) Finset.univ) := by
  pointwise [step]

/-- All 32 products of one tile that meet at the running maximum `j` are within `b`. -/
def Within (H B : FVec Ideal S256x256 .bf16) (j : S8x256.Idx) (b : EReal) : Prop :=
  ∀ q : Fin 32, FloatOps.absf (F := Ideal) (φ := .f32)
    (∑ k : Fin 256, H (ix2 ⟨q.val * 8 + (j 0).val, by have : (j 0).val < 8 := (j 0).isLt; omega⟩ k) * B (ix2 k (j 1))) ≤ b

/-- A tile's step, by its upper bounds. -/
theorem step_le (H acc B) (j : S8x256.Idx) (b : EReal) : step H acc B j ≤ b ↔ acc j ≤ b ∧ Within H B j b := by
  rw [step_apply, max_le_iff, fold_le, Within]

/-- The final scale of the running maxima. -/
theorem pay2_apply (acc : FVec Ideal S8x256 .f32) (j : S8x128.Idx) : k0_pay2 (F := Ideal) acc j =
    if Finset.fold max (Ideal.ofBits .f32 0xFF800000#32) (fun x : Fin 8 × Fin 256 => acc (ix2 x.1 x.2)) Finset.univ = 0 then 1
    else Ideal.div (Finset.fold max (Ideal.ofBits .f32 0xFF800000#32) (fun x : Fin 8 × Fin 256 => acc (ix2 x.1 x.2)) Finset.univ)
        (Ideal.ofBits .f32 0x45280000#32) := by
  pointwise [k0_pay2]

/-- The zero fill is zero everywhere. -/
theorem pay3_apply (j) : k0_pay3 (F := Ideal) j = 0 := by
  pointwise [k0_pay3]

/-- The 256 × 256 tile at row tile `r` and lane tile `l` of a block. -/
def tile (X : FVec Ideal S512x2048 .bf16) (r : Fin 2) (l : Fin 8) : FVec Ideal S256x256 .bf16 := fun i =>
  X (ix2 ⟨r.val * 256 + (i 0).val, by have : (i 0).val < 256 := (i 0).isLt; omega⟩ ⟨l.val * 256 + (i 1).val, by have : (i 1).val < 256 := (i 1).isLt; omega⟩)

/-- One grid point: its block's sixteen tiles. -/
def all (H : FVec Ideal S256x256 .bf16) (acc : FVec Ideal S8x256 .f32) (X : FVec Ideal S512x2048 .bf16) : FVec Ideal S8x256 .f32 :=
  step H (step H (step H (step H (step H (step H (step H (step H (step H (step H (step H (step H (step H (step H (step H (step H acc
    (tile X 0 0)) (tile X 0 1)) (tile X 0 2)) (tile X 0 3)) (tile X 0 4)) (tile X 0 5)) (tile X 0 6)) (tile X 0 7))
    (tile X 1 0)) (tile X 1 1)) (tile X 1 2)) (tile X 1 3)) (tile X 1 4)) (tile X 1 5)) (tile X 1 6)) (tile X 1 7)

/-- A grid point's effect, by its upper bounds. -/
theorem all_le (H acc X) (j : S8x256.Idx) (b : EReal) :
    all H acc X j ≤ b ↔ acc j ≤ b ∧ ∀ (r : Fin 2) (l : Fin 8), Within H (tile X r l) j b := by
  unfold all
  simp only [step_le, and_assoc]
  refine and_congr_right fun _ => ⟨?_, fun h => ?_⟩
  · rintro ⟨h0, h1, h2, h3, h4, h5, h6, h7, g0, g1, g2, g3, g4, g5, g6, g7⟩ r l
    fin_cases r <;> fin_cases l <;> assumption
  · exact ⟨h 0 0, h 0 1, h 0 2, h 0 3, h 0 4, h 0 5, h 0 6, h 0 7, h 1 0, h 1 1, h 1 2, h 1 3, h 1 4, h 1 5, h 1 6, h 1 7⟩

/-- Every partial load of the block is one of its tiles. -/
theorem ld_tile (X : FVec Ideal S512x2048 .bf16) (r : Fin 2) (l : Fin 8) (h) :
    View.ld (Val := Elt Ideal) (e' := .bf16) X (Rect.unit (s := S512x2048) ![r.val * 256, l.val * 256] S256x256.size h) = tile X r l := by
  blk_ext! [View.ld, tile] <;> exact congrArg (_ + ·) (Nat.one_mul _)

/-- The matrix block. -/
abbrev Hb (c : Dev nD) (t : Fin cfg0.N) : FVec Ideal S256x256 .bf16 := iblk m c 1 t

/-- The activations' block. -/
abbrev Xb (c : Dev nD) (t : Fin cfg0.N) : FVec Ideal S512x2048 .bf16 := iblk m c 0 t

/-- The first point starts from the zero fill. -/
theorem outs_A (c : Dev nD) (t : Fin cfg0.N) (h0 : t.val % 48 = 0) :
    (outsAt0 m c t.val t.isLt).2 = all (Hb m c t) (k0_pay3 (F := Ideal)) (Xb m c t) := by
  rw [outsAt0_A m c t h0 (by omega)]
  dsimp only
  frame_out
  rw [pay4_eq, pay6_eq, pay8_eq, pay1_eq]
  unfold all
  rw [← ld_tile _ 0 0, ← ld_tile _ 0 1, ← ld_tile _ 0 2, ← ld_tile _ 0 3, ← ld_tile _ 0 4, ← ld_tile _ 0 5, ← ld_tile _ 0 6, ← ld_tile _ 0 7,
    ← ld_tile _ 1 0, ← ld_tile _ 1 1, ← ld_tile _ 1 2, ← ld_tile _ 1 3, ← ld_tile _ 1 4, ← ld_tile _ 1 5, ← ld_tile _ 1 6, ← ld_tile _ 1 7]
  rfl

/-- Every later point goes on from what the point before left. -/
theorem outs_BC (c : Dev nD) (t : Fin cfg0.N) (h0 : ¬t.val % 48 = 0) :
    (outsAt0 m c t.val t.isLt).2
      = all (Hb m c t) (outsAt0 m c (t.val - 1) (Nat.lt_of_le_of_lt (Nat.sub_le _ _) t.isLt)).2 (Xb m c t) := by
  by_cases h1 : t.val % 48 = 47
  · rw [outsAt0_C m c t h0 h1]
    dsimp only
    frame_out
    rw [read_unread_whole, pay4_eq, pay6_eq, pay8_eq, pay1_eq]
    unfold all
    rw [← ld_tile _ 0 0, ← ld_tile _ 0 1, ← ld_tile _ 0 2, ← ld_tile _ 0 3, ← ld_tile _ 0 4, ← ld_tile _ 0 5, ← ld_tile _ 0 6, ← ld_tile _ 0 7,
      ← ld_tile _ 1 0, ← ld_tile _ 1 1, ← ld_tile _ 1 2, ← ld_tile _ 1 3, ← ld_tile _ 1 4, ← ld_tile _ 1 5, ← ld_tile _ 1 6, ← ld_tile _ 1 7]
    rfl
  · rw [outsAt0_B m c t h0 h1]
    dsimp only
    frame_out
    rw [read_unread_whole, pay4_eq, pay6_eq, pay8_eq, pay1_eq]
    unfold all
    rw [← ld_tile _ 0 0, ← ld_tile _ 0 1, ← ld_tile _ 0 2, ← ld_tile _ 0 3, ← ld_tile _ 0 4, ← ld_tile _ 0 5, ← ld_tile _ 0 6, ← ld_tile _ 0 7,
      ← ld_tile _ 1 0, ← ld_tile _ 1 1, ← ld_tile _ 1 2, ← ld_tile _ 1 3, ← ld_tile _ 1 4, ← ld_tile _ 1 5, ← ld_tile _ 1 6, ← ld_tile _ 1 7]
    rfl

/-- The last point writes the scale of the running maxima it leaves. -/
theorem outs_last (c : Dev nD) (t : Fin cfg0.N) (h1 : t.val % 48 = 47) :
    (outsAt0 m c t.val t.isLt).1 = k0_pay2 (F := Ideal) (outsAt0 m c t.val t.isLt).2 := by
  rw [outsAt0_C m c t (by omega) h1]
  dsimp only
  frame_out

/-- Every window's block index at a grid point, as arithmetic of the point's number. -/
theorem idx : ∀ t : Fin cfg0.N, win0_0.index t = ![t.val / 3, t.val % 3] ∧ win0_1.index t = ![0, 0]
    ∧ win0_2.index t = ![0, 0] ∧ t.val < 48 :=
  (by decide +kernel : ∀ t : Fin grid0.N, _)

/-- The array behind the matrix window: the arranged Hadamard matrix. -/
theorem V_cst (c : Dev nD) : V m c main_cst = fun i => Ideal.ofBits .bf16 (wordR (i 0).val (i 1).val) := by
  have e : V m c main_cst = fun i => FloatOps.ofBits (F := Ideal) .bf16 (lit0 (S256x256.rowMajor i)) := by
    show StableHlo.after (hostOps0 (F := Ideal)) _ main_cst = _
    after_results_simp
    rfl
  rw [e]
  funext i
  rw [HadLit.lit0_apply]
  rfl

/-- The matrix block is the arranged Hadamard matrix. -/
theorem Hb_apply (c : Dev nD) (t : Fin cfg0.N) (r k : Fin 256) :
    Hb m c t (ix2 r k) = Ideal.ofBits .bf16 (wordR r.val k.val) := by
  have e : Hb m c t (ix2 r k) = (show FVec Ideal S256x256 .bf16 from V m c main_cst) (ix2 r k) := by
    blk_point [Hb, iblk, idx t]
  rw [e, V_cst]
  rfl

/-- The activations' block at a point. -/
theorem Xb_apply (c : Dev nD) (t : Fin cfg0.N) (a : Fin 512) (b : Fin 2048) :
    Xb m c t (ix2 a b) = (show FVec Ideal S8192x6144 .bf16 from m ((c : Thread nD τ).loc main_arg0))
      (ix2 ⟨t.val / 3 * 512 + a.val, by have := (idx t).2.2.2; omega⟩ ⟨t.val % 3 * 2048 + b.val, by omega⟩) := by
  blk_point [Xb, iblk, V, idx t]

end Cert.AmaxXIdeal.Hand
-- ==== Proof.AmaxXRef.lean ====
module

public import proofs.«01_k».proof.Proof.HadMax
public import proofs.«01_k».proof.Proof.Gen.AmaxXRefIdeal.Run

@[expose] public section

set_option maxRecDepth 16384

/-! The reference for the column-group tensor scale of the activations, read at an index. -/

noncomputable section

namespace Cert.AmaxXRefIdeal.Hand

open Cert.AmaxXRefIdeal Cert.AmaxXRefIdeal.Gen Cert.Had Idealize.ShloMosaic

/-- The rotated activations: every column's groups of 32 rows, times the Hadamard matrix. -/
abbrev ROT (X : FVec Ideal S8192x6144 .bf16) : FVec Ideal S256x32x6144 .f32 :=
  transpose S256x32x6144 [1, 0, 2] (Host.dotGeneral dot_S32x32_S256x32x6144_S32x256x6144_0_1_1_02_n_n (some .fp32)
    (sitofp .f32 (subi (broadcastInDim S32x32 ![] bcast_S_S32x32 (constantI S_ 32 1#32)) (muli (broadcastInDim S32x32 ![] bcast_S_S32x32 (constantI S_ 32 2#32))
      (andi (ctpop (andi (broadcastInDim S32x32 ![0, 1] bcast_S32x1_S32x32_0_1 (broadcastInDim S32x1 ![0] bcast_S32_S32x1_0 (iotaInDim S32 32 0)))
          (broadcastInDim S32x32 ![0, 1] bcast_S1x32_S32x32_0_1 (broadcastInDim S1x32 ![1] bcast_S32_S1x32_1 (iotaInDim S32 32 0)))))
        (broadcastInDim S32x32 ![] bcast_S_S32x32 (constantI S_ 32 1#32))))))
    (shapeCast _ (extf .f32 X bitsLt_bf16_f32) shapeCasts_S8192x6144_S256x32x6144)) transposes_S32x256x6144_S256x32x6144_1_0_2

/-- The greatest absolute value of the rotated activations. -/
abbrev MAX (V : FVec Ideal S256x32x6144 .f32) : FVec Ideal S_ .f32 :=
  Host.reduce FloatOps.maximumf (Host.absf V) (constant S_ .f32 0xFF800000#32) reducesTo_S256x32x6144_S_d0_1_2 h_S_

/-- The tensor scale of a greatest absolute value, at every entry of the result. -/
abbrev TSC (M : FVec Ideal S_ .f32) : FVec Ideal S8x128 .f32 :=
  broadcastInDim S8x128 ![] bcast_S_S8x128 (select (cmpf .oeq M (constant S_ .f32 0x00000000#32)) (id (constant S_ .f32 0x3F800000#32))
    (Host.divf M (constant S_ .f32 0x45280000#32)))

/-- The reference's composed term. -/
abbrev REF (X : FVec Ideal S8192x6144 .bf16) : FVec Ideal S8x128 .f32 := TSC (MAX (ROT X))

/-- The tensor scale: 1 for a zero maximum, else the maximum over 2688. -/
theorem tsc_apply (M : FVec Ideal S_ .f32) (j : S8x128.Idx) :
    TSC M j = if M ix0 = 0 then 1 else Ideal.div (M ix0) (Ideal.ofBits .f32 0x45280000#32) := by
  rw [TSC, id]
  pointwise []

/-- The maximum as one fold over all entries. -/
theorem max_apply (V : FVec Ideal S256x32x6144 .f32) :
    MAX V ix0 = Finset.univ.fold max (Ideal.ofBits .f32 0xFF800000#32)
      fun x : Fin 256 × Fin 32 × Fin 6144 => FloatOps.absf (F := Ideal) (φ := .f32) (V (ix3 x.1 x.2.1 x.2.2)) := by
  pointwise []

/-- A rotated entry: the signed sum over the 32 rows of its group. -/
theorem rot_apply (X : FVec Ideal S8192x6144 .bf16) (g : Fin 256) (s : Fin 32) (f : Fin 6144) :
    ROT X (ix3 g s f) = ∑ i : Fin 32, hv i.val s.val * X (ix2 ⟨g.val * 32 + i.val, by omega⟩ f) := by
  have e : ROT X (ix3 g s f) = ∑ i : Fin 32, FloatOps.sitofp (F := Ideal) .f32 (IntOp.subi (1#32) (IntOp.muli (2#32) (IntOp.andi (IntOp.ctpop
      (IntOp.andi (BitVec.ofNat 32 i.val) (BitVec.ofNat 32 s.val))) 1#32))) * X (ix2 ⟨g.val * 32 + i.val, by omega⟩ f) := by
    pointwise [ROT]
  rw [e]
  exact Finset.sum_congr rfl fun i _ => by rw [sign_val]

/-- The greatest absolute value is at most `b` when every rotated entry is within `b`. -/
theorem max_le (X : FVec Ideal S8192x6144 .bf16) (b : EReal) :
    MAX (ROT X) ix0 ≤ b ↔ ∀ (g : Fin 256) (s : Fin 32) (f : Fin 6144),
      FloatOps.absf (F := Ideal) (φ := .f32) (∑ i : Fin 32, hv i.val s.val * X (ix2 ⟨g.val * 32 + i.val, by omega⟩ f)) ≤ b := by
  rw [max_apply, fold_le]
  simp only [rot_apply, Prod.forall]

end Cert.AmaxXRefIdeal.Hand
-- ==== Proof.AmaxXValue.lean ====
module

public import proofs.«01_k».proof.Proof.AmaxXStep
public import proofs.«01_k».proof.Proof.AmaxXRef

@[expose] public section

set_option maxRecDepth 16384

/-! The column-group tensor scale of the activations: the array the call leaves is the reference's term of its argument.
The two maxima are equal because they have the same upper bounds. -/

noncomputable section

namespace Cert.AmaxXIdeal.Hand

open Cert.AmaxXIdeal Cert.AmaxXIdeal.Gen Cert.Had Idealize.ShloMosaic Idealize.ShloMosaic.TcCoe Idealize.SL.Sem
open Idealize.ShloMosaic.Pipeline (Dat)

/-- The reference's composed term. -/
abbrev REF (X : FVec Ideal S8192x6144 .bf16) : FVec Ideal S8x128 .f32 := Cert.AmaxXRefIdeal.Hand.REF X

variable (m : (ℓ : Loc nD τ sig) → Buf (Elt Ideal) ℓ)

/-- The argument. -/
abbrev XX (c : Dev nD) : FVec Ideal S8192x6144 .bf16 := m ((c : Thread nD τ).loc main_arg0)

/-- A rotated entry of the argument, by its group of 32 rows, its place in the group and its column. -/
def rot (X : FVec Ideal S8192x6144 .bf16) (g : Fin 256) (s : Fin 32) (f : Fin 6144) : EReal :=
  ∑ i : Fin 32, hv i.val s.val * X (ix2 ⟨g.val * 32 + i.val, by omega⟩ f)

/-- One entry of the kernel's product at a tile is one rotated entry. -/
theorem sum_eq (c : Dev nD) (t : Fin cfg0.N) (r : Fin 2) (l : Fin 8) (ρ k : Fin 256)
    (hg : t.val / 3 * 16 + r.val * 8 + tok ρ.val / 32 < 256) (hs : tok ρ.val % 32 < 32) (hf : t.val % 3 * 2048 + l.val * 256 + k.val < 6144) :
    ∑ i : Fin 256, Hb m c t (ix2 ρ i) * tile (Xb m c t) r l (ix2 i k)
      = rot (XX m c) ⟨t.val / 3 * 16 + r.val * 8 + tok ρ.val / 32, hg⟩ ⟨tok ρ.val % 32, hs⟩ ⟨t.val % 3 * 2048 + l.val * 256 + k.val, hf⟩ := by
  have e : ∀ i : Fin 256, Hb m c t (ix2 ρ i) * tile (Xb m c t) r l (ix2 i k)
      = Ideal.ofBits .bf16 (wordR ρ.val i.val) * tile (Xb m c t) r l (ix2 i k) := fun i => by rw [Hb_apply]
  rw [Finset.sum_congr rfl fun i _ => e i, sum_wordR ρ.val ρ.isLt (fun i => tile (Xb m c t) r l (ix2 i k)), rot]
  refine Finset.sum_congr rfl fun i _ => congrArg (hv i.val _ * ·) ?_
  rw [tile, Xb_apply]
  refine congrArg (XX m c) (congrArg₂ ix2 (Fin.ext ?_) (Fin.ext ?_))
  · show t.val / 3 * 512 + (r.val * 256 + (tok ρ.val / 32 * 32 + i.val)) = (t.val / 3 * 16 + r.val * 8 + tok ρ.val / 32) * 32 + i.val
    omega
  · show t.val % 3 * 2048 + (l.val * 256 + k.val) = t.val % 3 * 2048 + l.val * 256 + k.val
    omega

/-- The running maxima after point `n`, by their upper bounds. -/
theorem scr_le (c : Dev nD) (j : S8x256.Idx) (b : EReal) : ∀ (n : ℕ) (hn : n < cfg0.N),
    (show FVec Ideal S8x256 .f32 from (outsAt0 m c n hn).2) j ≤ b ↔ 0 ≤ b ∧ ∀ t : Fin cfg0.N, t.val ≤ n → ∀ (r : Fin 2) (l : Fin 8),
      Within (Hb m c t) (tile (Xb m c t) r l) j b := by
  intro n
  induction n with
  | zero =>
    intro hn
    show (show FVec Ideal S8x256 .f32 from (outsAt0 m c (⟨0, hn⟩ : Fin cfg0.N).val hn).2) j ≤ b ↔ _
    rw [outs_A m c ⟨0, hn⟩ rfl, all_le, pay3_apply]
    refine and_congr_right fun _ => ⟨fun h t ht => ?_, fun h => h ⟨0, hn⟩ (Nat.le_refl 0)⟩
    obtain rfl : t = ⟨0, hn⟩ := Fin.ext (Nat.le_zero.mp ht)
    exact h
  | succ n ih =>
    intro hn
    have h48 := (idx ⟨n + 1, hn⟩).2.2.2
    show (show FVec Ideal S8x256 .f32 from (outsAt0 m c (⟨n + 1, hn⟩ : Fin cfg0.N).val hn).2) j ≤ b ↔ _
    rw [outs_BC m c ⟨n + 1, hn⟩ (by simp only at h48 ⊢; omega), all_le]
    have ih' := ih (Nat.lt_of_succ_lt hn)
    refine (and_congr_left fun _ => ih').trans ?_
    rw [and_assoc]
    refine and_congr_right fun _ => ⟨fun h t ht => ?_, fun h => ⟨fun t ht => h t (Nat.le_succ_of_le ht), h ⟨n + 1, hn⟩ (Nat.le_refl _)⟩⟩
    rcases Nat.lt_or_ge n t.val with h1 | h1
    · obtain rfl : t = ⟨n + 1, hn⟩ := Fin.ext (Nat.le_antisymm ht h1)
      exact h.2
    · exact h.1 t h1

/-- The greatest of the running maxima, as one fold. -/
def top (acc : FVec Ideal S8x256 .f32) : EReal :=
  Finset.fold max (Ideal.ofBits .f32 0xFF800000#32) (fun x : Fin 8 × Fin 256 => acc (ix2 x.1 x.2)) Finset.univ

/-- The greatest running maximum after the last point is within `b` when every rotated entry is. -/
theorem top_le (c : Dev nD) (h47 : 47 < cfg0.N) (b : EReal) : top (show FVec Ideal S8x256 .f32 from (outsAt0 m c 47 h47).2) ≤ b
    ↔ ∀ (g : Fin 256) (s : Fin 32) (f : Fin 6144), FloatOps.absf (F := Ideal) (φ := .f32) (rot (XX m c) g s f) ≤ b := by
  have hN : cfg0.N = 48 := N_0
  rw [top, fold_le]
  constructor
  · intro h g s f
    obtain ⟨ρ, hρ⟩ := tok_surj ⟨g.val % 8 * 32 + s.val, by omega⟩
    have hρ' : tok ρ.val = g.val % 8 * 32 + s.val := hρ
    have hw := ((scr_le m c (ix2 ⟨ρ.val % 8, by omega⟩ ⟨f.val % 256, by omega⟩) b 47 h47).mp (h (⟨ρ.val % 8, by omega⟩, ⟨f.val % 256, by omega⟩))).2
      ⟨g.val / 16 * 3 + f.val / 2048, by omega⟩ (by simp only; omega) ⟨g.val % 16 / 8, by omega⟩ ⟨f.val % 2048 / 256, by omega⟩ ⟨ρ.val / 8, by omega⟩
    have e : (⟨ρ.val / 8 * 8 + ρ.val % 8, by omega⟩ : Fin 256) = ρ := Fin.ext (by simp only; omega)
    have hw' : FloatOps.absf (F := Ideal) (φ := .f32) (∑ i : Fin 256, Hb m c ⟨g.val / 16 * 3 + f.val / 2048, by omega⟩ (ix2 ⟨ρ.val / 8 * 8 + ρ.val % 8, by omega⟩ i)
      * tile (Xb m c ⟨g.val / 16 * 3 + f.val / 2048, by omega⟩) ⟨g.val % 16 / 8, by omega⟩ ⟨f.val % 2048 / 256, by omega⟩ (ix2 i ⟨f.val % 256, by omega⟩)) ≤ b := hw
    rw [e, sum_eq m c _ _ _ ρ _ (by simp only; omega) (by omega) (by simp only; omega)] at hw'
    refine le_of_eq_of_le (congrArg (FloatOps.absf (F := Ideal) (φ := .f32)) ?_) hw'
    congr 1
    · exact Fin.ext (by simp only; omega)
    · exact Fin.ext (by simp only; omega)
    · exact Fin.ext (by simp only; omega)
  · intro h x
    refine (scr_le m c (ix2 x.1 x.2) b 47 h47).mpr ⟨(abs_nonneg _).trans (h 0 0 0), fun t _ r l q => ?_⟩
    have ht := (idx t).2.2.2
    have hx := x.1.isLt
    have hx2 := x.2.isLt
    have hρ : q.val * 8 + x.1.val < 256 := by omega
    have hk := tok_lt _ hρ
    have e := sum_eq m c t r l ⟨q.val * 8 + x.1.val, hρ⟩ x.2 (by simp only; omega) (by omega) (by omega)
    exact le_of_eq_of_le (congrArg (FloatOps.absf (F := Ideal) (φ := .f32)) e) (h _ _ _)

/-- The blocks of the output window cover its array. -/
theorem covers : (cfg0.win 2).Covers := by
  refine Pipeline.Window.covers_of_indexMap_surj (w := cfg0.win 2) rfl (by decide) ?_
  decide +kernel

/-- The result array after the run is the reference's term of the argument. -/
theorem final (c : Dev nD) : (dats m 0 c).arrAt 2 (cfgs 0).N = REF (m ((c : Thread nD τ).loc main_arg0)) := by
  refine (dats m 0 c).arrAt_eq_of_covers 2 _ covers fun t hf y => ?_
  blk_simp
  have h1 := (flush0_2 t).mp hf
  have ht := (idx t).2.2.2
  have h47 : 47 < cfg0.N := lt_of_lt_of_eq (by decide) N_0.symm
  obtain rfl : t = ⟨47, h47⟩ := Fin.ext (by simp only; omega)
  have e : top (show FVec Ideal S8x256 .f32 from (outsAt0 m c 47 h47).2) = Cert.AmaxXRefIdeal.Hand.MAX (Cert.AmaxXRefIdeal.Hand.ROT (XX m c)) ix0 :=
    eq_of_forall_ge_iff fun b => (top_le m c h47 b).trans (Cert.AmaxXRefIdeal.Hand.max_le (XX m c) b).symm
  rw [after0_2, outs_last m c _ h1, pay2_apply]
  refine Eq.trans ?_ (Cert.AmaxXRefIdeal.Hand.tsc_apply _ _).symm
  rw [← e]
  rfl

end Cert.AmaxXIdeal.Hand
-- ==== Proof.AmaxXClaims.lean ====
module

public import proofs.«01_k».proof.Defs
public import proofs.«01_k».proof.Proof.Gen.AmaxX.Frame
public import proofs.«01_k».proof.Proof.AmaxXValue
public import Idealize.ShloMosaic.Lib.Tactic
public import Idealize.ShloMosaic.Lib.Quiescent

@[expose] public section

set_option maxRecDepth 16384

/-! The claims about the call `AmaxX`. -/

noncomputable section

namespace Cert.Proof.AmaxXClaims

open Idealize.ShloMosaic Idealize.ShloMosaic.TcCoe Idealize.SL.Sem

/-- The kernel program runs to an end and leaves its arguments and all counters as they were. -/
theorem frame_p : Cert.quiescent_AmaxX := fun m ρ _ => Cert.AmaxX.Gen.frame m ρ

/-- The same of its idealization. -/
theorem frame_pi : Cert.quiescent_AmaxXIdeal := fun m ρ _ => Cert.AmaxXIdeal.Gen.frame m ρ

/-- The same of the reference. -/
theorem frame_ri : Cert.quiescent_AmaxXRefIdeal := fun m ρ _ =>
  (θ_run Cert.AmaxXRefIdeal.defs _ _).mono (fun r h => ⟨fun c => (h c).2,
      Idealize.ShloMosaic.sem_eq_zero_of_no_sems (by decide) r.2⟩)
    (Cert.AmaxXRefIdeal.Value.run (F := Ideal) m ρ)

/-- The idealization rewrote nothing. -/
theorem preserves : Cert.preserves_AmaxX_AmaxXIdeal := trivial

/-- Over the extended reals the kernel and the reference end with equal results. -/
theorem algebraic : Cert.algebraic_AmaxXIdeal_AmaxXRefIdeal := by
  intro m ρ m' ρ' _ hagree
  refine ⟨fun c => Cert.AmaxXIdeal.Hand.REF (m ((c : Thread Cert.AmaxXIdeal.nD Cert.AmaxXIdeal.τ).loc Cert.AmaxXIdeal.main_arg0)), ?_, ?_⟩
  · refine (θ_run Cert.AmaxXIdeal.defs _ _).mono (fun _ h c => ?_) (Cert.AmaxXIdeal.Value.run_blocks (F := Ideal) m ρ)
    exact ⟨(h c).1.trans (Cert.AmaxXIdeal.Hand.final m c), (h c).2⟩
  · refine (θ_run Cert.AmaxXRefIdeal.defs _ _).mono (fun _ h c => ?_) (Cert.AmaxXRefIdeal.Value.run (F := Ideal) m' ρ')
    refine ⟨(h c).1.trans ?_, (h c).2⟩
    rw [hagree c]

end Cert.Proof.AmaxXClaims

end
-- ==== Proof.HadDyRows.lean ====
module

public import proofs.«01_k».proof.Proof.HadWord
public import proofs.«01_k».proof.AmaxDyIdeal
public import Idealize.ShloMosaic.Lib.Tactic

@[expose] public section

set_option maxRecDepth 65536

/-! The row matrix constant of the gradient's call, entry by entry. -/

noncomputable section

namespace Cert.AmaxDyIdeal.HadLit

open Cert.AmaxDyIdeal Cert.Had Idealize.ShloMosaic

/-- The table's word number `256 r + k`. -/
abbrev wr (n : Nat) : BitVec 16 := wordR (n / 256) (n % 256)

/-- Entries 0–16383. -/
theorem lit0_0 : lit0t1_0 = node 0 wr := by sl_kernel_rfl

/-- Entries 16384–32767. -/
theorem lit0_1 : lit0t1_1 = node 1 wr := by sl_kernel_rfl

/-- Entries 32768–49151. -/
theorem lit0_2 : lit0t1_2 = node 2 wr := by sl_kernel_rfl

/-- Entries 49152–65535. -/
theorem lit0_3 : lit0t1_3 = node 3 wr := by sl_kernel_rfl

/-- The table's word number `i`. -/
theorem lit0t_eq (i : Nat) (h : i < 65536) : lit0t i = wr i := by
  have h4 : i / 16384 < 4 := by omega
  unfold lit0t
  split
  case h_1 e => rw [lit0_0, node_eq _ _ _ e]
  case h_2 e => rw [lit0_1, node_eq _ _ _ e]
  case h_3 e => rw [lit0_2, node_eq _ _ _ e]
  case h_4 e => rw [lit0_3, node_eq _ _ _ e]
  case h_5 e0 e1 e2 e3 =>
    exfalso
    obtain e | e | e | e : i / 16384 = 0 ∨ i / 16384 = 1 ∨ i / 16384 = 2 ∨ i / 16384 = 3 := by omega
    · exact e0 e
    · exact e1 e
    · exact e2 e
    · exact e3 e

/-- The matrix constant at row `i 0`, column `i 1`. -/
theorem lit0_apply (i : S256x256.Idx) : lit0 (S256x256.rowMajor i) = wordR (i 0).val (i 1).val := by
  have e : (S256x256.rowMajor i).val = (i 0).val * 256 + (i 1).val := Shape.rowMajor_val_two i
  have h0 : (i 0).val < 256 := (i 0).isLt
  have h1 : (i 1).val < 256 := (i 1).isLt
  show lit0t (S256x256.rowMajor i).val = _
  rw [lit0t_eq _ (S256x256.rowMajor i).isLt, e]
  show wordR _ _ = _
  rw [show ((i 0).val * 256 + (i 1).val) / 256 = (i 0).val by omega, show ((i 0).val * 256 + (i 1).val) % 256 = (i 1).val by omega]

end Cert.AmaxDyIdeal.HadLit
-- ==== Proof.AmaxDyStepRows.lean ====
module

public import proofs.«01_k».proof.Proof.HadMax
public import proofs.«01_k».proof.Proof.HadDyRows
public import proofs.«01_k».proof.Proof.Gen.AmaxDyIdeal.Value
public import Idealize.ShloMosaic.Lib.Pipeline.ValueKit
public import Idealize.ShloMosaic.Lib.Pipeline.ReadBack
public import Idealize.ShloMosaic.Lib.Pipeline.Covers

@[expose] public section

set_option maxRecDepth 16384

/-! The column-group maximum of the output gradient: what one grid point does to the running maxima. -/

noncomputable section

namespace Cert.AmaxDyIdeal.HandR

open Cert.AmaxDyIdeal Cert.AmaxDyIdeal.Gen Cert.Had Idealize.ShloMosaic Idealize.ShloMosaic.TcCoe Idealize.SL.Sem
open Idealize.ShloMosaic.Pipeline (Dat)

variable (m : (ℓ : Loc nD τ sig) → Buf (Elt Ideal) ℓ)

/-- One tile: the running maxima against the absolute values of the matrix times the tile, folded to eight rows. -/
def step (H : FVec Ideal S256x256 .bf16) (acc : FVec Ideal S8x256 .f32) (B : FVec Ideal S256x256 .bf16) : FVec Ideal S8x256 .f32 :=
  maximumf acc (multiReduction .maximumf [0] S8x256 (absf (shapeCast S32x8x256 (matmul dot_S256x256_S256x256_S256x256_1_0_0_1_n_n none H B
    (constant S256x256 .f32 0x00000000#32)) shapeCasts_S256x256_S32x8x256)) 0xFF800000#32 reduces_S32x8x256_S8x256 (.inl rfl) rfl)

/-- The running maxima this payload stores: the blocks it is given, taken in one after the other by `step`. -/
theorem pay1_eq (H acc B) : k0_pay12 (F := Ideal) acc (k0_pay11 H B) = step H acc B := by
  unfold k0_pay12 k0_pay11 step
  simp only [shapeCast_self]

/-- The running maxima this payload stores: the blocks it is given, taken in one after the other by `step`. -/
theorem pay4_eq (H acc B0 B1 B2) : k0_pay6 (F := Ideal) H acc B0 B1 B2 = step H (step H (step H acc B0) B1) B2 := rfl

/-- The running maxima this payload stores: the blocks it is given, taken in one after the other by `step`. -/
theorem pay6_eq (H acc B3 B4 B5 B6 B7 B8) : k0_pay8 (F := Ideal) H acc (k0_pay7 H B3) B4 B5 B6 B7 B8
    = step H (step H (step H (step H (step H (step H acc B3) B4) B5) B6) B7) B8 := rfl

/-- The running maxima this payload stores: the blocks it is given, taken in one after the other by `step`. -/
theorem pay8_eq (H acc B3 B4 B5 B6 B7 B8) : k0_pay10 (F := Ideal) H acc (k0_pay9 H B3) B4 B5 B6 B7 B8
    = step H (step H (step H (step H (step H (step H acc B3) B4) B5) B6) B7) B8 := rfl

/-- A tile's step as a fold over the 32 products that meet at one running maximum. -/
theorem step_apply (H acc B) (j : S8x256.Idx) : step H acc B j = max (acc j)
    (Finset.fold max (Ideal.ofBits .f32 0xFF800000#32) (fun q : Fin 32 => FloatOps.absf (F := Ideal) (φ := .f32)
      (∑ k : Fin 256, H (ix2 ⟨q.val * 8 + (j 0).val, by have : (j 0).val < 8 := (j 0).isLt; omega⟩ k) * B (ix2 k (j 1)))) Finset.univ) := by
  pointwise [step]

/-- All 32 products of one tile that meet at the running maximum `j` are within `b`. -/
def Within (H B : FVec Ideal S256x256 .bf16) (j : S8x256.Idx) (b : EReal) : Prop :=
  ∀ q : Fin 32, FloatOps.absf (F := Ideal) (φ := .f32)
    (∑ k : Fin 256, H (ix2 ⟨q.val * 8 + (j 0).val, by have : (j 0).val < 8 := (j 0).isLt; omega⟩ k) * B (ix2 k (j 1))) ≤ b

/-- A tile's step, by its upper bounds. -/
theorem step_le (H acc B) (j : S8x256.Idx) (b : EReal) : step H acc B j ≤ b ↔ acc j ≤ b ∧ Within H B j b := by
  rw [step_apply, max_le_iff, fold_le, Within]

/-- The final scale of the running maxima. -/
theorem pay2_apply (acc : FVec Ideal S8x256 .f32) (j : S8x128.Idx) : k0_pay2 (F := Ideal) acc j =
    if Finset.fold max (Ideal.ofBits .f32 0xFF800000#32) (fun x : Fin 8 × Fin 256 => acc (ix2 x.1 x.2)) Finset.univ = 0 then 1
    else Ideal.div (Finset.fold max (Ideal.ofBits .f32 0xFF800000#32) (fun x : Fin 8 × Fin 256 => acc (ix2 x.1 x.2)) Finset.univ)
        (Ideal.ofBits .f32 0x45280000#32) := by
  pointwise [k0_pay2]

/-- The zero fill is zero everywhere. -/
theorem pay3_apply (j) : k0_pay4 (F := Ideal) j = 0 := by
  pointwise [k0_pay4]

/-- The 256 × 256 tile at row tile `r` and lane tile `l` of a block. -/
def tile (X : FVec Ideal S512x2048 .bf16) (r : Fin 2) (l : Fin 8) : FVec Ideal S256x256 .bf16 := fun i =>
  X (ix2 ⟨r.val * 256 + (i 0).val, by have : (i 0).val < 256 := (i 0).isLt; omega⟩ ⟨l.val * 256 + (i 1).val, by have : (i 1).val < 256 := (i 1).isLt; omega⟩)

/-- One grid point: its block's sixteen tiles. -/
def all (H : FVec Ideal S256x256 .bf16) (acc : FVec Ideal S8x256 .f32) (X : FVec Ideal S512x2048 .bf16) : FVec Ideal S8x256 .f32 :=
  step H (step H (step H (step H (step H (step H (step H (step H (step H (step H (step H (step H (step H (step H (step H (step H acc
    (tile X 0 0)) (tile X 0 1)) (tile X 0 2)) (tile X 0 3)) (tile X 0 4)) (tile X 0 5)) (tile X 0 6)) (tile X 0 7))
    (tile X 1 0)) (tile X 1 1)) (tile X 1 2)) (tile X 1 3)) (tile X 1 4)) (tile X 1 5)) (tile X 1 6)) (tile X 1 7)

/-- A grid point's effect, by its upper bounds. -/
theorem all_le (H acc X) (j : S8x256.Idx) (b : EReal) :
    all H acc X j ≤ b ↔ acc j ≤ b ∧ ∀ (r : Fin 2) (l : Fin 8), Within H (tile X r l) j b := by
  unfold all
  simp only [step_le, and_assoc]
  refine and_congr_right fun _ => ⟨?_, fun h => ?_⟩
  · rintro ⟨h0, h1, h2, h3, h4, h5, h6, h7, g0, g1, g2, g3, g4, g5, g6, g7⟩ r l
    fin_cases r <;> fin_cases l <;> assumption
  · exact ⟨h 0 0, h 0 1, h 0 2, h 0 3, h 0 4, h 0 5, h 0 6, h 0 7, h 1 0, h 1 1, h 1 2, h 1 3, h 1 4, h 1 5, h 1 6, h 1 7⟩

/-- Every partial load of the block is one of its tiles. -/
theorem ld_tile (X : FVec Ideal S512x2048 .bf16) (r : Fin 2) (l : Fin 8) (h) :
    View.ld (Val := Elt Ideal) (e' := .bf16) X (Rect.unit (s := S512x2048) ![r.val * 256, l.val * 256] S256x256.size h) = tile X r l := by
  blk_ext! [View.ld, tile] <;> exact congrArg (_ + ·) (Nat.one_mul _)

/-- The matrix block. -/
abbrev Hb (c : Dev nD) (t : Fin cfg0.N) : FVec Ideal S256x256 .bf16 := iblk m c 1 t

/-- The output gradient' block. -/
abbrev Xb (c : Dev nD) (t : Fin cfg0.N) : FVec Ideal S512x2048 .bf16 := iblk m c 0 t

/-- The first point starts from the zero fill. -/
theorem outs_A (c : Dev nD) (t : Fin cfg0.N) (h0 : t.val % 128 = 0) :
    (outsAt0 m c t.val t.isLt).2.2.1 = all (Hb m c t) (k0_pay4 (F := Ideal)) (Xb m c t) := by
  rw [outsAt0_A m c t h0 (by omega)]
  dsimp only
  frame_out
  rw [pay4_eq, pay6_eq, pay8_eq, pay1_eq]
  unfold all
  rw [← ld_tile _ 0 0, ← ld_tile _ 0 1, ← ld_tile _ 0 2, ← ld_tile _ 0 3, ← ld_tile _ 0 4, ← ld_tile _ 0 5, ← ld_tile _ 0 6, ← ld_tile _ 0 7,
    ← ld_tile _ 1 0, ← ld_tile _ 1 1, ← ld_tile _ 1 2, ← ld_tile _ 1 3, ← ld_tile _ 1 4, ← ld_tile _ 1 5, ← ld_tile _ 1 6, ← ld_tile _ 1 7]
  rfl

/-- Every later point goes on from what the point before left. -/
theorem outs_BC (c : Dev nD) (t : Fin cfg0.N) (h0 : ¬t.val % 128 = 0) :
    (outsAt0 m c t.val t.isLt).2.2.1
      = all (Hb m c t) (outsAt0 m c (t.val - 1) (Nat.lt_of_le_of_lt (Nat.sub_le _ _) t.isLt)).2.2.1 (Xb m c t) := by
  by_cases h1 : t.val % 128 = 127
  · rw [outsAt0_C m c t h0 h1]
    dsimp only
    frame_out
    rw [read_unread_whole, pay4_eq, pay6_eq, pay8_eq, pay1_eq]
    unfold all
    rw [← ld_tile _ 0 0, ← ld_tile _ 0 1, ← ld_tile _ 0 2, ← ld_tile _ 0 3, ← ld_tile _ 0 4, ← ld_tile _ 0 5, ← ld_tile _ 0 6, ← ld_tile _ 0 7,
      ← ld_tile _ 1 0, ← ld_tile _ 1 1, ← ld_tile _ 1 2, ← ld_tile _ 1 3, ← ld_tile _ 1 4, ← ld_tile _ 1 5, ← ld_tile _ 1 6, ← ld_tile _ 1 7]
    rfl
  · rw [outsAt0_B m c t h0 h1]
    dsimp only
    frame_out
    rw [read_unread_whole, pay4_eq, pay6_eq, pay8_eq, pay1_eq]
    unfold all
    rw [← ld_tile _ 0 0, ← ld_tile _ 0 1, ← ld_tile _ 0 2, ← ld_tile _ 0 3, ← ld_tile _ 0 4, ← ld_tile _ 0 5, ← ld_tile _ 0 6, ← ld_tile _ 0 7,
      ← ld_tile _ 1 0, ← ld_tile _ 1 1, ← ld_tile _ 1 2, ← ld_tile _ 1 3, ← ld_tile _ 1 4, ← ld_tile _ 1 5, ← ld_tile _ 1 6, ← ld_tile _ 1 7]
    rfl

/-- The last point writes the scale of the running maxima it leaves. -/
theorem outs_last (c : Dev nD) (t : Fin cfg0.N) (h1 : t.val % 128 = 127) :
    (outsAt0 m c t.val t.isLt).1 = k0_pay2 (F := Ideal) (outsAt0 m c t.val t.isLt).2.2.1 := by
  rw [outsAt0_C m c t (by omega) h1]
  dsimp only
  frame_out

/-- Every window's block index at a grid point, as arithmetic of the point's number. -/
theorem idx : ∀ t : Fin cfg0.N, win0_0.index t = ![t.val / 8, t.val % 8] ∧ win0_1.index t = ![0, 0]
    ∧ win0_3.index t = ![0, 0] ∧ t.val < 128 :=
  (by decide +kernel : ∀ t : Fin grid0.N, _)

/-- The array behind the matrix window: the arranged Hadamard matrix. -/
theorem V_cst (c : Dev nD) : V m c main_cst = fun i => Ideal.ofBits .bf16 (wordR (i 0).val (i 1).val) := by
  have e : V m c main_cst = fun i => FloatOps.ofBits (F := Ideal) .bf16 (lit0 (S256x256.rowMajor i)) := by
    show StableHlo.after (hostOps0 (F := Ideal)) _ main_cst = _
    after_results_simp
    rfl
  rw [e]
  funext i
  rw [HadLit.lit0_apply]
  rfl

/-- The matrix block is the arranged Hadamard matrix. -/
theorem Hb_apply (c : Dev nD) (t : Fin cfg0.N) (r k : Fin 256) :
    Hb m c t (ix2 r k) = Ideal.ofBits .bf16 (wordR r.val k.val) := by
  have e : Hb m c t (ix2 r k) = (show FVec Ideal S256x256 .bf16 from V m c main_cst) (ix2 r k) := by
    blk_point [Hb, iblk, idx t]
  rw [e, V_cst]
  rfl

/-- The output gradient' block at a point. -/
theorem Xb_apply (c : Dev nD) (t : Fin cfg0.N) (a : Fin 512) (b : Fin 2048) :
    Xb m c t (ix2 a b) = (show FVec Ideal S8192x16384 .bf16 from m ((c : Thread nD τ).loc main_arg0))
      (ix2 ⟨t.val / 8 * 512 + a.val, by have := (idx t).2.2.2; omega⟩ ⟨t.val % 8 * 2048 + b.val, by omega⟩) := by
  blk_point [Xb, iblk, V, idx t]

end Cert.AmaxDyIdeal.HandR
-- ==== Proof.AmaxDyRefRows.lean ====
module

public import proofs.«01_k».proof.Proof.HadMax
public import proofs.«01_k».proof.Proof.Gen.AmaxDyRefIdeal.Run

@[expose] public section

set_option maxRecDepth 16384

/-! The reference for the column-group tensor scale of the output gradient, read at an index. -/

noncomputable section

namespace Cert.AmaxDyRefIdeal.HandR

open Cert.AmaxDyRefIdeal Cert.AmaxDyRefIdeal.Gen Cert.Had Idealize.ShloMosaic

/-- The rotated output gradient: every column's groups of 32 rows, times the Hadamard matrix. -/
abbrev ROT (X : FVec Ideal S8192x16384 .bf16) : FVec Ideal S256x32x16384 .f32 :=
  transpose S256x32x16384 [1, 0, 2] (Host.dotGeneral dot_S32x32_S256x32x16384_S32x256x16384_0_1_1_02_n_n (some .fp32)
    (sitofp .f32 (subi (broadcastInDim S32x32 ![] bcast_S_S32x32 (constantI S_ 32 1#32)) (muli (broadcastInDim S32x32 ![] bcast_S_S32x32 (constantI S_ 32 2#32))
      (andi (ctpop (andi (broadcastInDim S32x32 ![0, 1] bcast_S32x1_S32x32_0_1 (broadcastInDim S32x1 ![0] bcast_S32_S32x1_0 (iotaInDim S32 32 0)))
          (broadcastInDim S32x32 ![0, 1] bcast_S1x32_S32x32_0_1 (broadcastInDim S1x32 ![1] bcast_S32_S1x32_1 (iotaInDim S32 32 0)))))
        (broadcastInDim S32x32 ![] bcast_S_S32x32 (constantI S_ 32 1#32))))))
    (shapeCast _ (extf .f32 X bitsLt_bf16_f32) shapeCasts_S8192x16384_S256x32x16384)) transposes_S32x256x16384_S256x32x16384_1_0_2

/-- The greatest absolute value of the rotated output gradient. -/
abbrev MAX (V : FVec Ideal S256x32x16384 .f32) : FVec Ideal S_ .f32 :=
  Host.reduce FloatOps.maximumf (Host.absf V) (constant S_ .f32 0xFF800000#32) reducesTo_S256x32x16384_S_d0_1_2 h_S_

/-- The tensor scale of a greatest absolute value, at every entry of the result. -/
abbrev TSC (M : FVec Ideal S_ .f32) : FVec Ideal S8x128 .f32 :=
  broadcastInDim S8x128 ![] bcast_S_S8x128 (select (cmpf .oeq M (constant S_ .f32 0x00000000#32)) (id (constant S_ .f32 0x3F800000#32))
    (Host.divf M (constant S_ .f32 0x45280000#32)))

/-- The reference's composed term. -/
abbrev REF (X : FVec Ideal S8192x16384 .bf16) : FVec Ideal S8x128 .f32 := TSC (MAX (ROT X))

/-- The tensor scale: 1 for a zero maximum, else the maximum over 2688. -/
theorem tsc_apply (M : FVec Ideal S_ .f32) (j : S8x128.Idx) :
    TSC M j = if M ix0 = 0 then 1 else Ideal.div (M ix0) (Ideal.ofBits .f32 0x45280000#32) := by
  rw [TSC, id]
  pointwise []

/-- The maximum as one fold over all entries. -/
theorem max_apply (V : FVec Ideal S256x32x16384 .f32) :
    MAX V ix0 = Finset.univ.fold max (Ideal.ofBits .f32 0xFF800000#32)
      fun x : Fin 256 × Fin 32 × Fin 16384 => FloatOps.absf (F := Ideal) (φ := .f32) (V (ix3 x.1 x.2.1 x.2.2)) := by
  pointwise []

/-- A rotated entry: the signed sum over the 32 rows of its group. -/
theorem rot_apply (X : FVec Ideal S8192x16384 .bf16) (g : Fin 256) (s : Fin 32) (f : Fin 16384) :
    ROT X (ix3 g s f) = ∑ i : Fin 32, hv i.val s.val * X (ix2 ⟨g.val * 32 + i.val, by omega⟩ f) := by
  have e : ROT X (ix3 g s f) = ∑ i : Fin 32, FloatOps.sitofp (F := Ideal) .f32 (IntOp.subi (1#32) (IntOp.muli (2#32) (IntOp.andi (IntOp.ctpop
      (IntOp.andi (BitVec.ofNat 32 i.val) (BitVec.ofNat 32 s.val))) 1#32))) * X (ix2 ⟨g.val * 32 + i.val, by omega⟩ f) := by
    pointwise [ROT]
  rw [e]
  exact Finset.sum_congr rfl fun i _ => by rw [sign_val]

/-- The greatest absolute value is at most `b` when every rotated entry is within `b`. -/
theorem max_le (X : FVec Ideal S8192x16384 .bf16) (b : EReal) :
    MAX (ROT X) ix0 ≤ b ↔ ∀ (g : Fin 256) (s : Fin 32) (f : Fin 16384),
      FloatOps.absf (F := Ideal) (φ := .f32) (∑ i : Fin 32, hv i.val s.val * X (ix2 ⟨g.val * 32 + i.val, by omega⟩ f)) ≤ b := by
  rw [max_apply, fold_le]
  simp only [rot_apply, Prod.forall]

end Cert.AmaxDyRefIdeal.HandR
-- ==== Proof.AmaxDyValueRows.lean ====
module

public import proofs.«01_k».proof.Proof.AmaxDyStepRows
public import proofs.«01_k».proof.Proof.AmaxDyRefRows

@[expose] public section

set_option maxRecDepth 16384

/-! The column-group tensor scale of the output gradient: the array the call leaves is the reference's term of its argument.
The two maxima are equal because they have the same upper bounds. -/

noncomputable section

namespace Cert.AmaxDyIdeal.HandR

open Cert.AmaxDyIdeal Cert.AmaxDyIdeal.Gen Cert.Had Idealize.ShloMosaic Idealize.ShloMosaic.TcCoe Idealize.SL.Sem
open Idealize.ShloMosaic.Pipeline (Dat)

/-- The reference's composed term. -/
abbrev REF (X : FVec Ideal S8192x16384 .bf16) : FVec Ideal S8x128 .f32 := Cert.AmaxDyRefIdeal.HandR.REF X

variable (m : (ℓ : Loc nD τ sig) → Buf (Elt Ideal) ℓ)

/-- The argument. -/
abbrev XX (c : Dev nD) : FVec Ideal S8192x16384 .bf16 := m ((c : Thread nD τ).loc main_arg0)

/-- A rotated entry of the argument, by its group of 32 rows, its place in the group and its column. -/
def rot (X : FVec Ideal S8192x16384 .bf16) (g : Fin 256) (s : Fin 32) (f : Fin 16384) : EReal :=
  ∑ i : Fin 32, hv i.val s.val * X (ix2 ⟨g.val * 32 + i.val, by omega⟩ f)

/-- One entry of the kernel's product at a tile is one rotated entry. -/
theorem sum_eq (c : Dev nD) (t : Fin cfg0.N) (r : Fin 2) (l : Fin 8) (ρ k : Fin 256)
    (hg : t.val / 8 * 16 + r.val * 8 + tok ρ.val / 32 < 256) (hs : tok ρ.val % 32 < 32) (hf : t.val % 8 * 2048 + l.val * 256 + k.val < 16384) :
    ∑ i : Fin 256, Hb m c t (ix2 ρ i) * tile (Xb m c t) r l (ix2 i k)
      = rot (XX m c) ⟨t.val / 8 * 16 + r.val * 8 + tok ρ.val / 32, hg⟩ ⟨tok ρ.val % 32, hs⟩ ⟨t.val % 8 * 2048 + l.val * 256 + k.val, hf⟩ := by
  have e : ∀ i : Fin 256, Hb m c t (ix2 ρ i) * tile (Xb m c t) r l (ix2 i k)
      = Ideal.ofBits .bf16 (wordR ρ.val i.val) * tile (Xb m c t) r l (ix2 i k) := fun i => by rw [Hb_apply]
  rw [Finset.sum_congr rfl fun i _ => e i, sum_wordR ρ.val ρ.isLt (fun i => tile (Xb m c t) r l (ix2 i k)), rot]
  refine Finset.sum_congr rfl fun i _ => congrArg (hv i.val _ * ·) ?_
  rw [tile, Xb_apply]
  refine congrArg (XX m c) (congrArg₂ ix2 (Fin.ext ?_) (Fin.ext ?_))
  · show t.val / 8 * 512 + (r.val * 256 + (tok ρ.val / 32 * 32 + i.val)) = (t.val / 8 * 16 + r.val * 8 + tok ρ.val / 32) * 32 + i.val
    omega
  · show t.val % 8 * 2048 + (l.val * 256 + k.val) = t.val % 8 * 2048 + l.val * 256 + k.val
    omega

/-- The running maxima after point `n`, by their upper bounds. -/
theorem scr_le (c : Dev nD) (j : S8x256.Idx) (b : EReal) : ∀ (n : ℕ) (hn : n < cfg0.N),
    (show FVec Ideal S8x256 .f32 from (outsAt0 m c n hn).2.2.1) j ≤ b ↔ 0 ≤ b ∧ ∀ t : Fin cfg0.N, t.val ≤ n → ∀ (r : Fin 2) (l : Fin 8),
      Within (Hb m c t) (tile (Xb m c t) r l) j b := by
  intro n
  induction n with
  | zero =>
    intro hn
    show (show FVec Ideal S8x256 .f32 from (outsAt0 m c (⟨0, hn⟩ : Fin cfg0.N).val hn).2.2.1) j ≤ b ↔ _
    rw [outs_A m c ⟨0, hn⟩ rfl, all_le, pay3_apply]
    refine and_congr_right fun _ => ⟨fun h t ht => ?_, fun h => h ⟨0, hn⟩ (Nat.le_refl 0)⟩
    obtain rfl : t = ⟨0, hn⟩ := Fin.ext (Nat.le_zero.mp ht)
    exact h
  | succ n ih =>
    intro hn
    have h128 := (idx ⟨n + 1, hn⟩).2.2.2
    show (show FVec Ideal S8x256 .f32 from (outsAt0 m c (⟨n + 1, hn⟩ : Fin cfg0.N).val hn).2.2.1) j ≤ b ↔ _
    rw [outs_BC m c ⟨n + 1, hn⟩ (by simp only at h128 ⊢; omega), all_le]
    have ih' := ih (Nat.lt_of_succ_lt hn)
    refine (and_congr_left fun _ => ih').trans ?_
    rw [and_assoc]
    refine and_congr_right fun _ => ⟨fun h t ht => ?_, fun h => ⟨fun t ht => h t (Nat.le_succ_of_le ht), h ⟨n + 1, hn⟩ (Nat.le_refl _)⟩⟩
    rcases Nat.lt_or_ge n t.val with h1 | h1
    · obtain rfl : t = ⟨n + 1, hn⟩ := Fin.ext (Nat.le_antisymm ht h1)
      exact h.2
    · exact h.1 t h1

/-- The greatest of the running maxima, as one fold. -/
def top (acc : FVec Ideal S8x256 .f32) : EReal :=
  Finset.fold max (Ideal.ofBits .f32 0xFF800000#32) (fun x : Fin 8 × Fin 256 => acc (ix2 x.1 x.2)) Finset.univ

/-- The greatest running maximum after the last point is within `b` when every rotated entry is. -/
theorem top_le (c : Dev nD) (tl : Fin cfg0.N) (hl : tl.val % 128 = 127) (b : EReal) : top (show FVec Ideal S8x256 .f32 from (outsAt0 m c tl.val tl.isLt).2.2.1) ≤ b
    ↔ ∀ (g : Fin 256) (s : Fin 32) (f : Fin 16384), FloatOps.absf (F := Ideal) (φ := .f32) (rot (XX m c) g s f) ≤ b := by
  have hN : cfg0.N = 128 := N_0
  have hl' : tl.val = 127 := by have := tl.isLt; omega
  rw [top, fold_le]
  constructor
  · intro h g s f
    obtain ⟨ρ, hρ⟩ := tok_surj ⟨g.val % 8 * 32 + s.val, by omega⟩
    have hρ' : tok ρ.val = g.val % 8 * 32 + s.val := hρ
    have hw := ((scr_le m c (ix2 ⟨ρ.val % 8, by omega⟩ ⟨f.val % 256, by omega⟩) b tl.val tl.isLt).mp (h (⟨ρ.val % 8, by omega⟩, ⟨f.val % 256, by omega⟩))).2
      ⟨g.val / 16 * 8 + f.val / 2048, by omega⟩ (by simp only; omega) ⟨g.val % 16 / 8, by omega⟩ ⟨f.val % 2048 / 256, by omega⟩ ⟨ρ.val / 8, by omega⟩
    have e : (⟨ρ.val / 8 * 8 + ρ.val % 8, by omega⟩ : Fin 256) = ρ := Fin.ext (by simp only; omega)
    have hw' : FloatOps.absf (F := Ideal) (φ := .f32) (∑ i : Fin 256, Hb m c ⟨g.val / 16 * 8 + f.val / 2048, by omega⟩ (ix2 ⟨ρ.val / 8 * 8 + ρ.val % 8, by omega⟩ i)
      * tile (Xb m c ⟨g.val / 16 * 8 + f.val / 2048, by omega⟩) ⟨g.val % 16 / 8, by omega⟩ ⟨f.val % 2048 / 256, by omega⟩ (ix2 i ⟨f.val % 256, by omega⟩)) ≤ b := hw
    rw [e, sum_eq m c _ _ _ ρ _ (by simp only; omega) (by omega) (by simp only; omega)] at hw'
    refine le_of_eq_of_le (congrArg (FloatOps.absf (F := Ideal) (φ := .f32)) ?_) hw'
    congr 1
    · exact Fin.ext (by simp only; omega)
    · exact Fin.ext (by simp only; omega)
    · exact Fin.ext (by simp only; omega)
  · intro h x
    refine (scr_le m c (ix2 x.1 x.2) b tl.val tl.isLt).mpr ⟨(abs_nonneg _).trans (h 0 0 0), fun t _ r l q => ?_⟩
    have ht := (idx t).2.2.2
    have hx := x.1.isLt
    have hx2 := x.2.isLt
    have hρ : q.val * 8 + x.1.val < 256 := by omega
    have hk := tok_lt _ hρ
    have e := sum_eq m c t r l ⟨q.val * 8 + x.1.val, hρ⟩ x.2 (by simp only; omega) (by omega) (by omega)
    exact le_of_eq_of_le (congrArg (FloatOps.absf (F := Ideal) (φ := .f32)) e) (h _ _ _)

/-- The blocks of the output window cover its array. -/
theorem covers : (cfg0.win 3).Covers := by
  refine Pipeline.Window.covers_of_indexMap_surj (w := cfg0.win 3) rfl (by decide) ?_
  decide +kernel

/-- The result array after the run is the reference's term of the argument. -/
theorem final (c : Dev nD) : (dats m 0 c).arrAt 3 (cfgs 0).N = REF (m ((c : Thread nD τ).loc main_arg0)) := by
  refine (dats m 0 c).arrAt_eq_of_covers 3 _ covers fun t hf y => ?_
  blk_simp
  have h1 := (flush0_3 t).mp hf
  have e : top (show FVec Ideal S8x256 .f32 from (outsAt0 m c t.val t.isLt).2.2.1) = Cert.AmaxDyRefIdeal.HandR.MAX (Cert.AmaxDyRefIdeal.HandR.ROT (XX m c)) ix0 :=
    eq_of_forall_ge_iff fun b => (top_le m c t h1 b).trans (Cert.AmaxDyRefIdeal.HandR.max_le (XX m c) b).symm
  rw [after0_3, outs_last m c _ h1, pay2_apply]
  refine Eq.trans ?_ (Cert.AmaxDyRefIdeal.HandR.tsc_apply _ _).symm
  rw [← e]
  rfl

end Cert.AmaxDyIdeal.HandR
-- ==== Proof.HadDyCols.lean ====
module

public import proofs.«01_k».proof.Proof.HadWord
public import proofs.«01_k».proof.AmaxDyIdeal
public import Idealize.ShloMosaic.Lib.Tactic

@[expose] public section

set_option maxRecDepth 65536

/-! The column matrix constant of the gradient's call, entry by entry. -/

noncomputable section

namespace Cert.AmaxDyIdeal.HadLit

open Cert.AmaxDyIdeal Cert.Had Idealize.ShloMosaic

/-- The table's word number `256 r + k`. -/
abbrev wc (n : Nat) : BitVec 16 := wordC (n / 256) (n % 256)

/-- Entries 0–16383. -/
theorem lit1_0 : lit1t1_0 = node 0 wc := by sl_kernel_rfl

/-- Entries 16384–32767. -/
theorem lit1_1 : lit1t1_1 = node 1 wc := by sl_kernel_rfl

/-- Entries 32768–49151. -/
theorem lit1_2 : lit1t1_2 = node 2 wc := by sl_kernel_rfl

/-- Entries 49152–65535. -/
theorem lit1_3 : lit1t1_3 = node 3 wc := by sl_kernel_rfl

/-- The table's word number `i`. -/
theorem lit1t_eq (i : Nat) (h : i < 65536) : lit1t i = wc i := by
  have h4 : i / 16384 < 4 := by omega
  unfold lit1t
  split
  case h_1 e => rw [lit1_0, node_eq _ _ _ e]
  case h_2 e => rw [lit1_1, node_eq _ _ _ e]
  case h_3 e => rw [lit1_2, node_eq _ _ _ e]
  case h_4 e => rw [lit1_3, node_eq _ _ _ e]
  case h_5 e0 e1 e2 e3 =>
    exfalso
    obtain e | e | e | e : i / 16384 = 0 ∨ i / 16384 = 1 ∨ i / 16384 = 2 ∨ i / 16384 = 3 := by omega
    · exact e0 e
    · exact e1 e
    · exact e2 e
    · exact e3 e

/-- The matrix constant at row `i 0`, column `i 1`. -/
theorem lit1_apply (i : S256x256.Idx) : lit1 (S256x256.rowMajor i) = wordC (i 0).val (i 1).val := by
  have e : (S256x256.rowMajor i).val = (i 0).val * 256 + (i 1).val := Shape.rowMajor_val_two i
  have h0 : (i 0).val < 256 := (i 0).isLt
  have h1 : (i 1).val < 256 := (i 1).isLt
  show lit1t (S256x256.rowMajor i).val = _
  rw [lit1t_eq _ (S256x256.rowMajor i).isLt, e]
  show wordC _ _ = _
  rw [show ((i 0).val * 256 + (i 1).val) / 256 = (i 0).val by omega, show ((i 0).val * 256 + (i 1).val) % 256 = (i 1).val by omega]

end Cert.AmaxDyIdeal.HadLit
-- ==== Proof.AmaxDyStepLanes.lean ====
module

public import proofs.«01_k».proof.Proof.HadMax
public import proofs.«01_k».proof.Proof.HadDyCols
public import proofs.«01_k».proof.Proof.Gen.AmaxDyIdeal.Value
public import Idealize.ShloMosaic.Lib.Pipeline.ValueKit
public import Idealize.ShloMosaic.Lib.Pipeline.ReadBack
public import Idealize.ShloMosaic.Lib.Pipeline.Covers

@[expose] public section

set_option maxRecDepth 16384

/-! The row-group maximum of the output gradient: what one grid point does to the running maxima. -/

noncomputable section

namespace Cert.AmaxDyIdeal.HandL

open Cert.AmaxDyIdeal Cert.AmaxDyIdeal.Gen Cert.Had Idealize.ShloMosaic Idealize.ShloMosaic.TcCoe Idealize.SL.Sem
open Idealize.ShloMosaic.Pipeline (Dat)

variable (m : (ℓ : Loc nD τ sig) → Buf (Elt Ideal) ℓ)

/-- One tile: the running maxima against the absolute values of the tile times the matrix, folded to eight rows. -/
def step (H : FVec Ideal S256x256 .bf16) (acc : FVec Ideal S8x256 .f32) (B : FVec Ideal S512x256 .bf16) : FVec Ideal S8x256 .f32 :=
  maximumf acc (multiReduction .maximumf [0] S8x256 (absf (shapeCast S64x8x256 (matmul dot_S512x256_S256x256_S512x256_1_0_0_1_n_n none B H
    (constant S512x256 .f32 0x00000000#32)) shapeCasts_S512x256_S64x8x256)) 0xFF800000#32 reduces_S64x8x256_S8x256 (.inl rfl) rfl)

/-- The running maxima this payload stores: the blocks it is given, taken in one after the other by `step`. -/
theorem pay13_eq (H acc B0 B1 B2 B3) : k0_pay13 (F := Ideal) H acc B0 B1 B2 B3 = step H (step H (step H (step H acc B0) B1) B2) B3 := rfl

/-- The running maxima this payload stores: the blocks it is given, taken in one after the other by `step`. -/
theorem payL_eq (H acc B4 B5 B6 B7) : k0_pay1 (F := Ideal) H acc (k0_pay14 H B4) B5 B6 B7
    = step H (step H (step H (step H acc B4) B5) B6) B7 := by
  unfold k0_pay1 k0_pay14 step
  simp only [shapeCast_self]

/-- A tile's step as a fold over the 64 products that meet at one running maximum. -/
theorem step_apply (H acc B) (j : S8x256.Idx) : step H acc B j = max (acc j)
    (Finset.fold max (Ideal.ofBits .f32 0xFF800000#32) (fun q : Fin 64 => FloatOps.absf (F := Ideal) (φ := .f32)
      (∑ k : Fin 256, B (ix2 ⟨q.val * 8 + (j 0).val, by have : (j 0).val < 8 := (j 0).isLt; omega⟩ k) * H (ix2 k (j 1)))) Finset.univ) := by
  pointwise [step]

/-- All 64 products of one tile that meet at the running maximum `j` are within `b`. -/
def Within (H : FVec Ideal S256x256 .bf16) (B : FVec Ideal S512x256 .bf16) (j : S8x256.Idx) (b : EReal) : Prop :=
  ∀ q : Fin 64, FloatOps.absf (F := Ideal) (φ := .f32)
    (∑ k : Fin 256, B (ix2 ⟨q.val * 8 + (j 0).val, by have : (j 0).val < 8 := (j 0).isLt; omega⟩ k) * H (ix2 k (j 1))) ≤ b

/-- A tile's step, by its upper bounds. -/
theorem step_le (H acc B) (j : S8x256.Idx) (b : EReal) : step H acc B j ≤ b ↔ acc j ≤ b ∧ Within H B j b := by
  rw [step_apply, max_le_iff, fold_le, Within]

/-- The final scale of the running maxima. -/
theorem pay2_apply (acc : FVec Ideal S8x256 .f32) (j : S8x128.Idx) : k0_pay3 (F := Ideal) acc j =
    if Finset.fold max (Ideal.ofBits .f32 0xFF800000#32) (fun x : Fin 8 × Fin 256 => acc (ix2 x.1 x.2)) Finset.univ = 0 then 1
    else Ideal.div (Finset.fold max (Ideal.ofBits .f32 0xFF800000#32) (fun x : Fin 8 × Fin 256 => acc (ix2 x.1 x.2)) Finset.univ)
        (Ideal.ofBits .f32 0x45280000#32) := by
  pointwise [k0_pay3]

/-- The zero fill is zero everywhere. -/
theorem pay3_apply (j) : k0_pay5 (F := Ideal) j = 0 := by
  pointwise [k0_pay5]

/-- The 512 × 256 tile at lane tile `l` of a block. -/
def tile (X : FVec Ideal S512x2048 .bf16) (l : Fin 8) : FVec Ideal S512x256 .bf16 := fun i =>
  X (ix2 ⟨(i 0).val, (i 0).isLt⟩ ⟨l.val * 256 + (i 1).val, by have : (i 1).val < 256 := (i 1).isLt; omega⟩)

/-- One grid point: its block's eight tiles. -/
def all (H : FVec Ideal S256x256 .bf16) (acc : FVec Ideal S8x256 .f32) (X : FVec Ideal S512x2048 .bf16) : FVec Ideal S8x256 .f32 :=
  step H (step H (step H (step H (step H (step H (step H (step H acc
    (tile X 0)) (tile X 1)) (tile X 2)) (tile X 3)) (tile X 4)) (tile X 5)) (tile X 6)) (tile X 7)

/-- A grid point's effect, by its upper bounds. -/
theorem all_le (H acc X) (j : S8x256.Idx) (b : EReal) :
    all H acc X j ≤ b ↔ acc j ≤ b ∧ ∀ l : Fin 8, Within H (tile X l) j b := by
  unfold all
  simp only [step_le, and_assoc]
  refine and_congr_right fun _ => ⟨?_, fun h => ?_⟩
  · rintro ⟨h0, h1, h2, h3, h4, h5, h6, h7⟩ l
    fin_cases l <;> assumption
  · exact ⟨h 0, h 1, h 2, h 3, h 4, h 5, h 6, h 7⟩

/-- Every partial load of the block is one of its tiles. -/
theorem ld_tile (X : FVec Ideal S512x2048 .bf16) (l : Fin 8) (h) :
    View.ld (Val := Elt Ideal) (e' := .bf16) X (Rect.unit (s := S512x2048) ![0, l.val * 256] S512x256.size h) = tile X l := by
  blk_ext! [View.ld, tile]
  · exact (Nat.zero_add _).trans (Nat.one_mul _)
  · exact congrArg (_ + ·) (Nat.one_mul _)

/-- The matrix block. -/
abbrev Hb (c : Dev nD) (t : Fin cfg0.N) : FVec Ideal S256x256 .bf16 := iblk m c 2 t

/-- The output gradient' block. -/
abbrev Xb (c : Dev nD) (t : Fin cfg0.N) : FVec Ideal S512x2048 .bf16 := iblk m c 0 t

/-- The first point starts from the zero fill. -/
theorem outs_A (c : Dev nD) (t : Fin cfg0.N) (h0 : t.val % 128 = 0) :
    (outsAt0 m c t.val t.isLt).2.2.2 = all (Hb m c t) (k0_pay5 (F := Ideal)) (Xb m c t) := by
  rw [outsAt0_A m c t h0 (by omega)]
  dsimp only
  frame_out
  rw [pay13_eq, payL_eq]
  unfold all
  rw [← ld_tile _ 0, ← ld_tile _ 1, ← ld_tile _ 2, ← ld_tile _ 3, ← ld_tile _ 4, ← ld_tile _ 5, ← ld_tile _ 6, ← ld_tile _ 7]
  rfl

/-- Every later point goes on from what the point before left. -/
theorem outs_BC (c : Dev nD) (t : Fin cfg0.N) (h0 : ¬t.val % 128 = 0) :
    (outsAt0 m c t.val t.isLt).2.2.2
      = all (Hb m c t) (outsAt0 m c (t.val - 1) (Nat.lt_of_le_of_lt (Nat.sub_le _ _) t.isLt)).2.2.2 (Xb m c t) := by
  by_cases h1 : t.val % 128 = 127
  · rw [outsAt0_C m c t h0 h1]
    dsimp only
    frame_out
    rw [read_unread_whole, pay13_eq, payL_eq]
    unfold all
    rw [← ld_tile _ 0, ← ld_tile _ 1, ← ld_tile _ 2, ← ld_tile _ 3, ← ld_tile _ 4, ← ld_tile _ 5, ← ld_tile _ 6, ← ld_tile _ 7]
    rfl
  · rw [outsAt0_B m c t h0 h1]
    dsimp only
    frame_out
    rw [read_unread_whole, pay13_eq, payL_eq]
    unfold all
    rw [← ld_tile _ 0, ← ld_tile _ 1, ← ld_tile _ 2, ← ld_tile _ 3, ← ld_tile _ 4, ← ld_tile _ 5, ← ld_tile _ 6, ← ld_tile _ 7]
    rfl

/-- The last point writes the scale of the running maxima it leaves. -/
theorem outs_last (c : Dev nD) (t : Fin cfg0.N) (h1 : t.val % 128 = 127) :
    (outsAt0 m c t.val t.isLt).2.1 = k0_pay3 (F := Ideal) (outsAt0 m c t.val t.isLt).2.2.2 := by
  rw [outsAt0_C m c t (by omega) h1]
  dsimp only
  frame_out

/-- Every window's block index at a grid point, as arithmetic of the point's number. -/
theorem idx : ∀ t : Fin cfg0.N, win0_0.index t = ![t.val / 8, t.val % 8] ∧ win0_2.index t = ![0, 0]
    ∧ win0_4.index t = ![0, 0] ∧ t.val < 128 :=
  (by decide +kernel : ∀ t : Fin grid0.N, _)

/-- The array behind the matrix window: the arranged Hadamard matrix. -/
theorem V_cst (c : Dev nD) : V m c main_cst_0 = fun i => Ideal.ofBits .bf16 (wordC (i 0).val (i 1).val) := by
  have e : V m c main_cst_0 = fun i => FloatOps.ofBits (F := Ideal) .bf16 (lit1 (S256x256.rowMajor i)) := by
    show StableHlo.after (hostOps0 (F := Ideal)) _ main_cst_0 = _
    after_results_simp
    rfl
  rw [e]
  funext i
  rw [HadLit.lit1_apply]
  rfl

/-- The matrix block is the arranged Hadamard matrix. -/
theorem Hb_apply (c : Dev nD) (t : Fin cfg0.N) (r k : Fin 256) :
    Hb m c t (ix2 r k) = Ideal.ofBits .bf16 (wordC r.val k.val) := by
  have e : Hb m c t (ix2 r k) = (show FVec Ideal S256x256 .bf16 from V m c main_cst_0) (ix2 r k) := by
    blk_point [Hb, iblk, idx t]
  rw [e, V_cst]
  rfl

/-- The output gradient' block at a point. -/
theorem Xb_apply (c : Dev nD) (t : Fin cfg0.N) (a : Fin 512) (b : Fin 2048) :
    Xb m c t (ix2 a b) = (show FVec Ideal S8192x16384 .bf16 from m ((c : Thread nD τ).loc main_arg0))
      (ix2 ⟨t.val / 8 * 512 + a.val, by have := (idx t).2.2.2; omega⟩ ⟨t.val % 8 * 2048 + b.val, by omega⟩) := by
  blk_point [Xb, iblk, V, idx t]

end Cert.AmaxDyIdeal.HandL
-- ==== Proof.AmaxDyRefLanes.lean ====
module

public import proofs.«01_k».proof.Proof.HadMax
public import proofs.«01_k».proof.Proof.Gen.AmaxDyRefIdeal.Run

@[expose] public section

set_option maxRecDepth 16384

/-! The reference for the row-group tensor scale of the output gradient, read at an index. -/

noncomputable section

namespace Cert.AmaxDyRefIdeal.HandL

open Cert.AmaxDyRefIdeal Cert.AmaxDyRefIdeal.Gen Cert.Had Idealize.ShloMosaic

/-- The rotated output gradient: every row's groups of 32 lanes, times the Hadamard matrix. -/
abbrev ROT (X : FVec Ideal S8192x16384 .bf16) : FVec Ideal S8192x512x32 .f32 :=
  Host.dotGeneral dot_S8192x512x32_S32x32_S8192x512x32_2_0_01_1_n_n (some .fp32)
    (shapeCast _ (extf .f32 X bitsLt_bf16_f32) shapeCasts_S8192x16384_S8192x512x32)
    (sitofp .f32 (subi (broadcastInDim S32x32 ![] bcast_S_S32x32 (constantI S_ 32 1#32)) (muli (broadcastInDim S32x32 ![] bcast_S_S32x32 (constantI S_ 32 2#32))
      (andi (ctpop (andi (broadcastInDim S32x32 ![0, 1] bcast_S32x1_S32x32_0_1 (broadcastInDim S32x1 ![0] bcast_S32_S32x1_0 (iotaInDim S32 32 0)))
          (broadcastInDim S32x32 ![0, 1] bcast_S1x32_S32x32_0_1 (broadcastInDim S1x32 ![1] bcast_S32_S1x32_1 (iotaInDim S32 32 0)))))
        (broadcastInDim S32x32 ![] bcast_S_S32x32 (constantI S_ 32 1#32))))))

/-- The greatest absolute value of the rotated output gradient. -/
abbrev MAX (V : FVec Ideal S8192x512x32 .f32) : FVec Ideal S_ .f32 :=
  Host.reduce FloatOps.maximumf (Host.absf V) (constant S_ .f32 0xFF800000#32) reducesTo_S8192x512x32_S_d0_1_2 h_S_

/-- The tensor scale of a greatest absolute value, at every entry of the result. -/
abbrev TSC (M : FVec Ideal S_ .f32) : FVec Ideal S8x128 .f32 :=
  broadcastInDim S8x128 ![] bcast_S_S8x128 (select (cmpf .oeq M (constant S_ .f32 0x00000000#32)) (id (constant S_ .f32 0x3F800000#32))
    (Host.divf M (constant S_ .f32 0x45280000#32)))

/-- The reference's composed term. -/
abbrev REF (X : FVec Ideal S8192x16384 .bf16) : FVec Ideal S8x128 .f32 := TSC (MAX (ROT X))

/-- The tensor scale: 1 for a zero maximum, else the maximum over 2688. -/
theorem tsc_apply (M : FVec Ideal S_ .f32) (j : S8x128.Idx) :
    TSC M j = if M ix0 = 0 then 1 else Ideal.div (M ix0) (Ideal.ofBits .f32 0x45280000#32) := by
  rw [TSC, id]
  pointwise []

/-- The maximum as one fold over all entries. -/
theorem max_apply (V : FVec Ideal S8192x512x32 .f32) :
    MAX V ix0 = Finset.univ.fold max (Ideal.ofBits .f32 0xFF800000#32)
      fun x : Fin 8192 × Fin 512 × Fin 32 => FloatOps.absf (F := Ideal) (φ := .f32) (V (ix3 x.1 x.2.1 x.2.2)) := by
  pointwise []

/-- A rotated entry: the signed sum over the 32 lanes of its group. -/
theorem rot_apply (X : FVec Ideal S8192x16384 .bf16) (d : Fin 8192) (g : Fin 512) (s : Fin 32) :
    ROT X (ix3 d g s) = ∑ i : Fin 32, X (ix2 d ⟨g.val * 32 + i.val, by omega⟩) * hv i.val s.val := by
  have e : ROT X (ix3 d g s) = ∑ i : Fin 32, X (ix2 d ⟨g.val * 32 + i.val, by omega⟩)
      * FloatOps.sitofp (F := Ideal) .f32 (IntOp.subi (1#32) (IntOp.muli (2#32) (IntOp.andi (IntOp.ctpop
        (IntOp.andi (BitVec.ofNat 32 i.val) (BitVec.ofNat 32 s.val))) 1#32))) := by
    pointwise [ROT]
  rw [e]
  exact Finset.sum_congr rfl fun i _ => by rw [sign_val]

/-- The greatest absolute value is at most `b` when every rotated entry is within `b`. -/
theorem max_le (X : FVec Ideal S8192x16384 .bf16) (b : EReal) :
    MAX (ROT X) ix0 ≤ b ↔ ∀ (d : Fin 8192) (g : Fin 512) (s : Fin 32),
      FloatOps.absf (F := Ideal) (φ := .f32) (∑ i : Fin 32, X (ix2 d ⟨g.val * 32 + i.val, by omega⟩) * hv i.val s.val) ≤ b := by
  rw [max_apply, fold_le]
  simp only [rot_apply, Prod.forall]

end Cert.AmaxDyRefIdeal.HandL
-- ==== Proof.AmaxDyValueLanes.lean ====
module

public import proofs.«01_k».proof.Proof.AmaxDyStepLanes
public import proofs.«01_k».proof.Proof.AmaxDyRefLanes

@[expose] public section

set_option maxRecDepth 16384

/-! The row-group tensor scale of the output gradient: the array the call leaves is the reference's term of its argument.
The two maxima are equal because they have the same upper bounds. -/

noncomputable section

namespace Cert.AmaxDyIdeal.HandL

open Cert.AmaxDyIdeal Cert.AmaxDyIdeal.Gen Cert.Had Idealize.ShloMosaic Idealize.ShloMosaic.TcCoe Idealize.SL.Sem
open Idealize.ShloMosaic.Pipeline (Dat)

/-- The reference's composed term. -/
abbrev REF (X : FVec Ideal S8192x16384 .bf16) : FVec Ideal S8x128 .f32 := Cert.AmaxDyRefIdeal.HandL.REF X

variable (m : (ℓ : Loc nD τ sig) → Buf (Elt Ideal) ℓ)

/-- The argument. -/
abbrev XX (c : Dev nD) : FVec Ideal S8192x16384 .bf16 := m ((c : Thread nD τ).loc main_arg0)

/-- A rotated entry of the argument, by its row, its group of 32 lanes and its place in the group. -/
def rot (X : FVec Ideal S8192x16384 .bf16) (d : Fin 8192) (g : Fin 512) (s : Fin 32) : EReal :=
  ∑ i : Fin 32, X (ix2 d ⟨g.val * 32 + i.val, by omega⟩) * hv i.val s.val

/-- One entry of the kernel's product at a tile is one rotated entry. -/
theorem sum_eq (c : Dev nD) (t : Fin cfg0.N) (l : Fin 8) (ρ : Fin 512) (k : Fin 256)
    (hd : t.val / 8 * 512 + ρ.val < 8192) (hg : t.val % 8 * 64 + l.val * 8 + lane k.val / 32 < 512) (hs : lane k.val % 32 < 32) :
    ∑ i : Fin 256, tile (Xb m c t) l (ix2 ρ i) * Hb m c t (ix2 i k)
      = rot (XX m c) ⟨t.val / 8 * 512 + ρ.val, hd⟩ ⟨t.val % 8 * 64 + l.val * 8 + lane k.val / 32, hg⟩ ⟨lane k.val % 32, hs⟩ := by
  have e : ∀ i : Fin 256, tile (Xb m c t) l (ix2 ρ i) * Hb m c t (ix2 i k)
      = tile (Xb m c t) l (ix2 ρ i) * Ideal.ofBits .bf16 (wordC i.val k.val) := fun i => by rw [Hb_apply]
  rw [Finset.sum_congr rfl fun i _ => e i, sum_wordC k.val k.isLt (fun i => tile (Xb m c t) l (ix2 ρ i)), rot]
  refine Finset.sum_congr rfl fun i _ => congrArg (· * hv i.val _) ?_
  rw [tile, Xb_apply]
  refine congrArg (XX m c) (congrArg₂ ix2 (Fin.ext rfl) (Fin.ext ?_))
  show t.val % 8 * 2048 + (l.val * 256 + (lane k.val / 32 * 32 + i.val)) = (t.val % 8 * 64 + l.val * 8 + lane k.val / 32) * 32 + i.val
  omega

/-- The running maxima after point `n`, by their upper bounds. -/
theorem scr_le (c : Dev nD) (j : S8x256.Idx) (b : EReal) : ∀ (n : ℕ) (hn : n < cfg0.N),
    (show FVec Ideal S8x256 .f32 from (outsAt0 m c n hn).2.2.2) j ≤ b ↔ 0 ≤ b ∧ ∀ t : Fin cfg0.N, t.val ≤ n → ∀ l : Fin 8,
      Within (Hb m c t) (tile (Xb m c t) l) j b := by
  intro n
  induction n with
  | zero =>
    intro hn
    show (show FVec Ideal S8x256 .f32 from (outsAt0 m c (⟨0, hn⟩ : Fin cfg0.N).val hn).2.2.2) j ≤ b ↔ _
    rw [outs_A m c ⟨0, hn⟩ rfl, all_le, pay3_apply]
    refine and_congr_right fun _ => ⟨fun h t ht => ?_, fun h => h ⟨0, hn⟩ (Nat.le_refl 0)⟩
    obtain rfl : t = ⟨0, hn⟩ := Fin.ext (Nat.le_zero.mp ht)
    exact h
  | succ n ih =>
    intro hn
    have h128 := (idx ⟨n + 1, hn⟩).2.2.2
    show (show FVec Ideal S8x256 .f32 from (outsAt0 m c (⟨n + 1, hn⟩ : Fin cfg0.N).val hn).2.2.2) j ≤ b ↔ _
    rw [outs_BC m c ⟨n + 1, hn⟩ (by simp only at h128 ⊢; omega), all_le]
    have ih' := ih (Nat.lt_of_succ_lt hn)
    refine (and_congr_left fun _ => ih').trans ?_
    rw [and_assoc]
    refine and_congr_right fun _ => ⟨fun h t ht => ?_, fun h => ⟨fun t ht => h t (Nat.le_succ_of_le ht), h ⟨n + 1, hn⟩ (Nat.le_refl _)⟩⟩
    rcases Nat.lt_or_ge n t.val with h1 | h1
    · obtain rfl : t = ⟨n + 1, hn⟩ := Fin.ext (Nat.le_antisymm ht h1)
      exact h.2
    · exact h.1 t h1

/-- The greatest of the running maxima, as one fold. -/
def top (acc : FVec Ideal S8x256 .f32) : EReal :=
  Finset.fold max (Ideal.ofBits .f32 0xFF800000#32) (fun x : Fin 8 × Fin 256 => acc (ix2 x.1 x.2)) Finset.univ

/-- The greatest running maximum after the last point is within `b` when every rotated entry is. -/
theorem top_le (c : Dev nD) (tl : Fin cfg0.N) (hl : tl.val % 128 = 127) (b : EReal) : top (show FVec Ideal S8x256 .f32 from (outsAt0 m c tl.val tl.isLt).2.2.2) ≤ b
    ↔ ∀ (d : Fin 8192) (g : Fin 512) (s : Fin 32), FloatOps.absf (F := Ideal) (φ := .f32) (rot (XX m c) d g s) ≤ b := by
  have hN : cfg0.N = 128 := N_0
  have hl' : tl.val = 127 := by have := tl.isLt; omega
  rw [top, fold_le]
  constructor
  · intro h d g s
    obtain ⟨k, hk⟩ := lane_surj ⟨g.val % 8 * 32 + s.val, by omega⟩
    have hk' : lane k.val = g.val % 8 * 32 + s.val := hk
    have hw : FloatOps.absf (F := Ideal) (φ := .f32) (∑ i : Fin 256, tile (Xb m c ⟨d.val / 512 * 8 + g.val / 64, by omega⟩) ⟨g.val % 64 / 8, by omega⟩ (ix2 ⟨d.val % 512 / 8 * 8 + d.val % 8, by omega⟩ i)
      * Hb m c ⟨d.val / 512 * 8 + g.val / 64, by omega⟩ (ix2 i k)) ≤ b :=
      ((scr_le m c (ix2 ⟨d.val % 8, by omega⟩ k) b tl.val tl.isLt).mp (h (⟨d.val % 8, by omega⟩, k))).2
        ⟨d.val / 512 * 8 + g.val / 64, by omega⟩ (by simp only; omega) ⟨g.val % 64 / 8, by omega⟩ ⟨d.val % 512 / 8, by omega⟩
    rw [sum_eq m c _ _ _ k (by simp only; omega) (by simp only; omega) (by omega)] at hw
    refine le_of_eq_of_le (congrArg (FloatOps.absf (F := Ideal) (φ := .f32)) ?_) hw
    congr 1
    · exact Fin.ext (by simp only; omega)
    · exact Fin.ext (by simp only; omega)
    · exact Fin.ext (by simp only; omega)
  · intro h x
    refine (scr_le m c (ix2 x.1 x.2) b tl.val tl.isLt).mpr ⟨(abs_nonneg _).trans (h 0 0 0), fun t _ l q => ?_⟩
    have ht := (idx t).2.2.2
    have hx := x.1.isLt
    have hx2 := x.2.isLt
    have hρ : q.val * 8 + x.1.val < 512 := by omega
    have hk := lane_lt _ hx2
    have e := sum_eq m c t l ⟨q.val * 8 + x.1.val, hρ⟩ x.2 (by simp only; omega) (by omega) (by omega)
    exact le_of_eq_of_le (congrArg (FloatOps.absf (F := Ideal) (φ := .f32)) e) (h _ _ _)

/-- The blocks of the output window cover its array. -/
theorem covers : (cfg0.win 4).Covers := by
  refine Pipeline.Window.covers_of_indexMap_surj (w := cfg0.win 4) rfl (by decide) ?_
  decide +kernel

/-- The result array after the run is the reference's term of the argument. -/
theorem final (c : Dev nD) : (dats m 0 c).arrAt 4 (cfgs 0).N = REF (m ((c : Thread nD τ).loc main_arg0)) := by
  refine (dats m 0 c).arrAt_eq_of_covers 4 _ covers fun t hf y => ?_
  blk_simp
  have h1 := (flush0_4 t).mp hf
  have e : top (show FVec Ideal S8x256 .f32 from (outsAt0 m c t.val t.isLt).2.2.2) = Cert.AmaxDyRefIdeal.HandL.MAX (Cert.AmaxDyRefIdeal.HandL.ROT (XX m c)) ix0 :=
    eq_of_forall_ge_iff fun b => (top_le m c t h1 b).trans (Cert.AmaxDyRefIdeal.HandL.max_le (XX m c) b).symm
  rw [after0_4, outs_last m c _ h1, pay2_apply]
  refine Eq.trans ?_ (Cert.AmaxDyRefIdeal.HandL.tsc_apply _ _).symm
  rw [← e]
  rfl

end Cert.AmaxDyIdeal.HandL
-- ==== Proof.AmaxDyValue.lean ====
module

public import proofs.«01_k».proof.Proof.AmaxDyValueRows
public import proofs.«01_k».proof.Proof.AmaxDyValueLanes

@[expose] public section

/-! The two tensor scales of the output gradient. -/

noncomputable section

namespace Cert.AmaxDyIdeal.Hand

open Cert.AmaxDyIdeal Cert.AmaxDyIdeal.Gen Idealize.ShloMosaic Idealize.ShloMosaic.TcCoe Idealize.SL.Sem

variable (m : (ℓ : Loc nD τ sig) → Buf (Elt Ideal) ℓ)

/-- The reference's first result: the column-group tensor scale. -/
abbrev REF0 (X : FVec Ideal S8192x16384 .bf16) : FVec Ideal S8x128 .f32 := Cert.AmaxDyRefIdeal.HandR.REF X

/-- The reference's second result: the row-group tensor scale. -/
abbrev REF1 (X : FVec Ideal S8192x16384 .bf16) : FVec Ideal S8x128 .f32 := Cert.AmaxDyRefIdeal.HandL.REF X

/-- The first result array after the run is the reference's first term of the argument. -/
theorem final0 (c : Dev nD) : (dats m 0 c).arrAt 3 (cfgs 0).N = REF0 (m ((c : Thread nD τ).loc main_arg0)) := HandR.final m c

/-- The second result array after the run is the reference's second term of the argument. -/
theorem final1 (c : Dev nD) : (dats m 0 c).arrAt 4 (cfgs 0).N = REF1 (m ((c : Thread nD τ).loc main_arg0)) := HandL.final m c

end Cert.AmaxDyIdeal.Hand
-- ==== Proof.AmaxDyClaims.lean ====
module

public import proofs.«01_k».proof.Defs
public import proofs.«01_k».proof.Proof.Gen.AmaxDy.Frame
public import proofs.«01_k».proof.Proof.AmaxDyValue
public import Idealize.ShloMosaic.Lib.Tactic
public import Idealize.ShloMosaic.Lib.Quiescent

@[expose] public section

set_option maxRecDepth 16384

/-! The claims about the call `AmaxDy`. -/

noncomputable section

namespace Cert.Proof.AmaxDyClaims

open Idealize.ShloMosaic Idealize.ShloMosaic.TcCoe Idealize.SL.Sem

/-- The kernel program runs to an end and leaves its arguments and all counters as they were. -/
theorem frame_p : Cert.quiescent_AmaxDy := fun m ρ _ => Cert.AmaxDy.Gen.frame m ρ

/-- The same of its idealization. -/
theorem frame_pi : Cert.quiescent_AmaxDyIdeal := fun m ρ _ => Cert.AmaxDyIdeal.Gen.frame m ρ

/-- The same of the reference. -/
theorem frame_ri : Cert.quiescent_AmaxDyRefIdeal := fun m ρ _ =>
  (θ_run Cert.AmaxDyRefIdeal.defs _ _).mono (fun r h => ⟨fun c => (h c).2.2,
      Idealize.ShloMosaic.sem_eq_zero_of_no_sems (by decide) r.2⟩)
    (Cert.AmaxDyRefIdeal.Value.run (F := Ideal) m ρ)

/-- The idealization rewrote nothing. -/
theorem preserves : Cert.preserves_AmaxDy_AmaxDyIdeal := trivial

/-- Over the extended reals the kernel and the reference end with equal results. -/
theorem algebraic : Cert.algebraic_AmaxDyIdeal_AmaxDyRefIdeal := by
  intro m ρ m' ρ' _ hagree
  refine ⟨fun c => Cert.AmaxDyIdeal.Hand.REF0 (m ((c : Thread Cert.AmaxDyIdeal.nD Cert.AmaxDyIdeal.τ).loc Cert.AmaxDyIdeal.main_arg0)),
    fun c => Cert.AmaxDyIdeal.Hand.REF1 (m ((c : Thread Cert.AmaxDyIdeal.nD Cert.AmaxDyIdeal.τ).loc Cert.AmaxDyIdeal.main_arg0)), ?_, ?_⟩
  · refine (θ_run Cert.AmaxDyIdeal.defs _ _).mono (fun _ h c => ?_) (Cert.AmaxDyIdeal.Value.run_blocks (F := Ideal) m ρ)
    exact ⟨(h c).1.trans (Cert.AmaxDyIdeal.Hand.final0 m c), (h c).2.1.trans (Cert.AmaxDyIdeal.Hand.final1 m c), (h c).2.2⟩
  · refine (θ_run Cert.AmaxDyRefIdeal.defs _ _).mono (fun _ h c => ?_) (Cert.AmaxDyRefIdeal.Value.run (F := Ideal) m' ρ')
    refine ⟨(h c).1.trans ?_, (h c).2.1.trans ?_, (h c).2.2⟩
    · rw [hagree c]
    · rw [hagree c]

end Cert.Proof.AmaxDyClaims

end
-- ==== Proof.HadW.lean ====
module

public import proofs.«01_k».proof.Proof.HadWord
public import proofs.«01_k».proof.AmaxWIdeal
public import Idealize.ShloMosaic.Lib.Tactic

@[expose] public section

set_option maxRecDepth 65536

/-! The matrix constant of the weights' call, entry by entry. -/

noncomputable section

namespace Cert.AmaxWIdeal.HadLit

open Cert.AmaxWIdeal Cert.Had Idealize.ShloMosaic

/-- The table's word number `256 r + k`. -/
abbrev wc (n : Nat) : BitVec 16 := wordC (n / 256) (n % 256)

/-- Entries 0–16383. -/
theorem lit0_0 : lit0t1_0 = node 0 wc := by sl_kernel_rfl

/-- Entries 16384–32767. -/
theorem lit0_1 : lit0t1_1 = node 1 wc := by sl_kernel_rfl

/-- Entries 32768–49151. -/
theorem lit0_2 : lit0t1_2 = node 2 wc := by sl_kernel_rfl

/-- Entries 49152–65535. -/
theorem lit0_3 : lit0t1_3 = node 3 wc := by sl_kernel_rfl

/-- The table's word number `i`. -/
theorem lit0t_eq (i : Nat) (h : i < 65536) : lit0t i = wc i := by
  have h4 : i / 16384 < 4 := by omega
  unfold lit0t
  split
  case h_1 e => rw [lit0_0, node_eq _ _ _ e]
  case h_2 e => rw [lit0_1, node_eq _ _ _ e]
  case h_3 e => rw [lit0_2, node_eq _ _ _ e]
  case h_4 e => rw [lit0_3, node_eq _ _ _ e]
  case h_5 e0 e1 e2 e3 =>
    exfalso
    obtain e | e | e | e : i / 16384 = 0 ∨ i / 16384 = 1 ∨ i / 16384 = 2 ∨ i / 16384 = 3 := by omega
    · exact e0 e
    · exact e1 e
    · exact e2 e
    · exact e3 e

/-- The matrix constant at row `i 0`, column `i 1`. -/
theorem lit0_apply (i : S256x256.Idx) : lit0 (S256x256.rowMajor i) = wordC (i 0).val (i 1).val := by
  have e : (S256x256.rowMajor i).val = (i 0).val * 256 + (i 1).val := Shape.rowMajor_val_two i
  have h0 : (i 0).val < 256 := (i 0).isLt
  have h1 : (i 1).val < 256 := (i 1).isLt
  show lit0t (S256x256.rowMajor i).val = _
  rw [lit0t_eq _ (S256x256.rowMajor i).isLt, e]
  show wordC _ _ = _
  rw [show ((i 0).val * 256 + (i 1).val) / 256 = (i 0).val by omega, show ((i 0).val * 256 + (i 1).val) % 256 = (i 1).val by omega]

end Cert.AmaxWIdeal.HadLit
-- ==== Proof.AmaxWStep.lean ====
module

public import proofs.«01_k».proof.Proof.HadMax
public import proofs.«01_k».proof.Proof.HadW
public import proofs.«01_k».proof.Proof.Gen.AmaxWIdeal.Value
public import Idealize.ShloMosaic.Lib.Pipeline.ValueKit
public import Idealize.ShloMosaic.Lib.Pipeline.ReadBack
public import Idealize.ShloMosaic.Lib.Pipeline.Covers

@[expose] public section

set_option maxRecDepth 16384

/-! The row-group maximum of the weights: what one grid point does to the running maxima. -/

noncomputable section

namespace Cert.AmaxWIdeal.Hand

open Cert.AmaxWIdeal Cert.AmaxWIdeal.Gen Cert.Had Idealize.ShloMosaic Idealize.ShloMosaic.TcCoe Idealize.SL.Sem
open Idealize.ShloMosaic.Pipeline (Dat)

variable (m : (ℓ : Loc nD τ sig) → Buf (Elt Ideal) ℓ)

/-- One tile: the running maxima against the absolute values of the tile times the matrix, folded to eight rows. -/
def step (H : FVec Ideal S256x256 .bf16) (acc : FVec Ideal S8x256 .f32) (B : FVec Ideal S512x256 .bf16) : FVec Ideal S8x256 .f32 :=
  maximumf acc (multiReduction .maximumf [0] S8x256 (absf (shapeCast S64x8x256 (matmul dot_S512x256_S256x256_S512x256_1_0_0_1_n_n none B H
    (constant S512x256 .f32 0x00000000#32)) shapeCasts_S512x256_S64x8x256)) 0xFF800000#32 reduces_S64x8x256_S8x256 (.inl rfl) rfl)

/-- The running maxima this payload stores: the blocks it is given, taken in one after the other by `step`. -/
theorem pay4_eq (H acc B0 B1 B2) : k0_pay4 (F := Ideal) H acc B0 B1 B2 = step H (step H (step H acc B0) B1) B2 := rfl

/-- The running maxima this payload stores: the blocks it is given, taken in one after the other by `step`. -/
theorem pay1_eq (H acc B3 B4 B5 B6 B7) : k0_pay1 (F := Ideal) H acc (k0_pay5 H B3) B4 B5 B6 B7
    = step H (step H (step H (step H (step H acc B3) B4) B5) B6) B7 := by
  unfold k0_pay1 k0_pay5 step
  simp only [shapeCast_self]

/-- A tile's step as a fold over the 64 products that meet at one running maximum. -/
theorem step_apply (H acc B) (j : S8x256.Idx) : step H acc B j = max (acc j)
    (Finset.fold max (Ideal.ofBits .f32 0xFF800000#32) (fun q : Fin 64 => FloatOps.absf (F := Ideal) (φ := .f32)
      (∑ k : Fin 256, B (ix2 ⟨q.val * 8 + (j 0).val, by have : (j 0).val < 8 := (j 0).isLt; omega⟩ k) * H (ix2 k (j 1)))) Finset.univ) := by
  pointwise [step]

/-- All 64 products of one tile that meet at the running maximum `j` are within `b`. -/
def Within (H : FVec Ideal S256x256 .bf16) (B : FVec Ideal S512x256 .bf16) (j : S8x256.Idx) (b : EReal) : Prop :=
  ∀ q : Fin 64, FloatOps.absf (F := Ideal) (φ := .f32)
    (∑ k : Fin 256, B (ix2 ⟨q.val * 8 + (j 0).val, by have : (j 0).val < 8 := (j 0).isLt; omega⟩ k) * H (ix2 k (j 1))) ≤ b

/-- A tile's step, by its upper bounds. -/
theorem step_le (H acc B) (j : S8x256.Idx) (b : EReal) : step H acc B j ≤ b ↔ acc j ≤ b ∧ Within H B j b := by
  rw [step_apply, max_le_iff, fold_le, Within]

/-- The final scale of the running maxima. -/
theorem pay2_apply (acc : FVec Ideal S8x256 .f32) (j : S8x128.Idx) : k0_pay2 (F := Ideal) acc j =
    if Finset.fold max (Ideal.ofBits .f32 0xFF800000#32) (fun x : Fin 8 × Fin 256 => acc (ix2 x.1 x.2)) Finset.univ = 0 then 1
    else Ideal.div (Finset.fold max (Ideal.ofBits .f32 0xFF800000#32) (fun x : Fin 8 × Fin 256 => acc (ix2 x.1 x.2)) Finset.univ)
        (Ideal.ofBits .f32 0x45280000#32) := by
  pointwise [k0_pay2]

/-- The zero fill is zero everywhere. -/
theorem pay3_apply (j) : k0_pay3 (F := Ideal) j = 0 := by
  pointwise [k0_pay3]

/-- The 512 × 256 tile at lane tile `l` of a block. -/
def tile (X : FVec Ideal S512x2048 .bf16) (l : Fin 8) : FVec Ideal S512x256 .bf16 := fun i =>
  X (ix2 ⟨(i 0).val, (i 0).isLt⟩ ⟨l.val * 256 + (i 1).val, by have : (i 1).val < 256 := (i 1).isLt; omega⟩)

/-- One grid point: its block's eight tiles. -/
def all (H : FVec Ideal S256x256 .bf16) (acc : FVec Ideal S8x256 .f32) (X : FVec Ideal S512x2048 .bf16) : FVec Ideal S8x256 .f32 :=
  step H (step H (step H (step H (step H (step H (step H (step H acc
    (tile X 0)) (tile X 1)) (tile X 2)) (tile X 3)) (tile X 4)) (tile X 5)) (tile X 6)) (tile X 7)

/-- A grid point's effect, by its upper bounds. -/
theorem all_le (H acc X) (j : S8x256.Idx) (b : EReal) :
    all H acc X j ≤ b ↔ acc j ≤ b ∧ ∀ l : Fin 8, Within H (tile X l) j b := by
  unfold all
  simp only [step_le, and_assoc]
  refine and_congr_right fun _ => ⟨?_, fun h => ?_⟩
  · rintro ⟨h0, h1, h2, h3, h4, h5, h6, h7⟩ l
    fin_cases l <;> assumption
  · exact ⟨h 0, h 1, h 2, h 3, h 4, h 5, h 6, h 7⟩

/-- Every partial load of the block is one of its tiles. -/
theorem ld_tile (X : FVec Ideal S512x2048 .bf16) (l : Fin 8) (h) :
    View.ld (Val := Elt Ideal) (e' := .bf16) X (Rect.unit (s := S512x2048) ![0, l.val * 256] S512x256.size h) = tile X l := by
  blk_ext! [View.ld, tile]
  · exact (Nat.zero_add _).trans (Nat.one_mul _)
  · exact congrArg (_ + ·) (Nat.one_mul _)

/-- The matrix block. -/
abbrev Hb (c : Dev nD) (t : Fin cfg0.N) : FVec Ideal S256x256 .bf16 := iblk m c 1 t

/-- The weights' block. -/
abbrev Xb (c : Dev nD) (t : Fin cfg0.N) : FVec Ideal S512x2048 .bf16 := iblk m c 0 t

/-- The first point starts from the zero fill. -/
theorem outs_A (c : Dev nD) (t : Fin cfg0.N) (h0 : t.val % 96 = 0) :
    (outsAt0 m c t.val t.isLt).2 = all (Hb m c t) (k0_pay3 (F := Ideal)) (Xb m c t) := by
  rw [outsAt0_A m c t h0 (by omega)]
  dsimp only
  frame_out
  rw [pay4_eq, pay1_eq]
  unfold all
  rw [← ld_tile _ 0, ← ld_tile _ 1, ← ld_tile _ 2, ← ld_tile _ 3, ← ld_tile _ 4, ← ld_tile _ 5, ← ld_tile _ 6, ← ld_tile _ 7]
  rfl

/-- Every later point goes on from what the point before left. -/
theorem outs_BC (c : Dev nD) (t : Fin cfg0.N) (h0 : ¬t.val % 96 = 0) :
    (outsAt0 m c t.val t.isLt).2
      = all (Hb m c t) (outsAt0 m c (t.val - 1) (Nat.lt_of_le_of_lt (Nat.sub_le _ _) t.isLt)).2 (Xb m c t) := by
  by_cases h1 : t.val % 96 = 95
  · rw [outsAt0_C m c t h0 h1]
    dsimp only
    frame_out
    rw [read_unread_whole, pay4_eq, pay1_eq]
    unfold all
    rw [← ld_tile _ 0, ← ld_tile _ 1, ← ld_tile _ 2, ← ld_tile _ 3, ← ld_tile _ 4, ← ld_tile _ 5, ← ld_tile _ 6, ← ld_tile _ 7]
    rfl
  · rw [outsAt0_B m c t h0 h1]
    dsimp only
    frame_out
    rw [read_unread_whole, pay4_eq, pay1_eq]
    unfold all
    rw [← ld_tile _ 0, ← ld_tile _ 1, ← ld_tile _ 2, ← ld_tile _ 3, ← ld_tile _ 4, ← ld_tile _ 5, ← ld_tile _ 6, ← ld_tile _ 7]
    rfl

/-- The last point writes the scale of the running maxima it leaves. -/
theorem outs_last (c : Dev nD) (t : Fin cfg0.N) (h1 : t.val % 96 = 95) :
    (outsAt0 m c t.val t.isLt).1 = k0_pay2 (F := Ideal) (outsAt0 m c t.val t.isLt).2 := by
  rw [outsAt0_C m c t (by omega) h1]
  dsimp only
  frame_out

/-- Every window's block index at a grid point, as arithmetic of the point's number. -/
theorem idx : ∀ t : Fin cfg0.N, win0_0.index t = ![t.val / 8, t.val % 8] ∧ win0_1.index t = ![0, 0]
    ∧ win0_2.index t = ![0, 0] ∧ t.val < 96 :=
  (by decide +kernel : ∀ t : Fin grid0.N, _)

/-- The array behind the matrix window: the arranged Hadamard matrix. -/
theorem V_cst (c : Dev nD) : V m c main_cst = fun i => Ideal.ofBits .bf16 (wordC (i 0).val (i 1).val) := by
  have e : V m c main_cst = fun i => FloatOps.ofBits (F := Ideal) .bf16 (lit0 (S256x256.rowMajor i)) := by
    show StableHlo.after (hostOps0 (F := Ideal)) _ main_cst = _
    after_results_simp
    rfl
  rw [e]
  funext i
  rw [HadLit.lit0_apply]
  rfl

/-- The matrix block is the arranged Hadamard matrix. -/
theorem Hb_apply (c : Dev nD) (t : Fin cfg0.N) (r k : Fin 256) :
    Hb m c t (ix2 r k) = Ideal.ofBits .bf16 (wordC r.val k.val) := by
  have e : Hb m c t (ix2 r k) = (show FVec Ideal S256x256 .bf16 from V m c main_cst) (ix2 r k) := by
    blk_point [Hb, iblk, idx t]
  rw [e, V_cst]
  rfl

/-- The weights' block at a point. -/
theorem Xb_apply (c : Dev nD) (t : Fin cfg0.N) (a : Fin 512) (b : Fin 2048) :
    Xb m c t (ix2 a b) = (show FVec Ideal S6144x16384 .bf16 from m ((c : Thread nD τ).loc main_arg0))
      (ix2 ⟨t.val / 8 * 512 + a.val, by have := (idx t).2.2.2; omega⟩ ⟨t.val % 8 * 2048 + b.val, by omega⟩) := by
  blk_point [Xb, iblk, V, idx t]

end Cert.AmaxWIdeal.Hand
-- ==== Proof.AmaxWRef.lean ====
module

public import proofs.«01_k».proof.Proof.HadMax
public import proofs.«01_k».proof.Proof.Gen.AmaxWRefIdeal.Run

@[expose] public section

set_option maxRecDepth 16384

/-! The reference for the row-group tensor scale of the weights, read at an index. -/

noncomputable section

namespace Cert.AmaxWRefIdeal.Hand

open Cert.AmaxWRefIdeal Cert.AmaxWRefIdeal.Gen Cert.Had Idealize.ShloMosaic

/-- The rotated weights: every row's groups of 32 lanes, times the Hadamard matrix. -/
abbrev ROT (X : FVec Ideal S6144x16384 .bf16) : FVec Ideal S6144x512x32 .f32 :=
  Host.dotGeneral dot_S6144x512x32_S32x32_S6144x512x32_2_0_01_1_n_n (some .fp32)
    (shapeCast _ (extf .f32 X bitsLt_bf16_f32) shapeCasts_S6144x16384_S6144x512x32)
    (sitofp .f32 (subi (broadcastInDim S32x32 ![] bcast_S_S32x32 (constantI S_ 32 1#32)) (muli (broadcastInDim S32x32 ![] bcast_S_S32x32 (constantI S_ 32 2#32))
      (andi (ctpop (andi (broadcastInDim S32x32 ![0, 1] bcast_S32x1_S32x32_0_1 (broadcastInDim S32x1 ![0] bcast_S32_S32x1_0 (iotaInDim S32 32 0)))
          (broadcastInDim S32x32 ![0, 1] bcast_S1x32_S32x32_0_1 (broadcastInDim S1x32 ![1] bcast_S32_S1x32_1 (iotaInDim S32 32 0)))))
        (broadcastInDim S32x32 ![] bcast_S_S32x32 (constantI S_ 32 1#32))))))

/-- The greatest absolute value of the rotated weights. -/
abbrev MAX (V : FVec Ideal S6144x512x32 .f32) : FVec Ideal S_ .f32 :=
  Host.reduce FloatOps.maximumf (Host.absf V) (constant S_ .f32 0xFF800000#32) reducesTo_S6144x512x32_S_d0_1_2 h_S_

/-- The tensor scale of a greatest absolute value, at every entry of the result. -/
abbrev TSC (M : FVec Ideal S_ .f32) : FVec Ideal S8x128 .f32 :=
  broadcastInDim S8x128 ![] bcast_S_S8x128 (select (cmpf .oeq M (constant S_ .f32 0x00000000#32)) (id (constant S_ .f32 0x3F800000#32))
    (Host.divf M (constant S_ .f32 0x45280000#32)))

/-- The reference's composed term. -/
abbrev REF (X : FVec Ideal S6144x16384 .bf16) : FVec Ideal S8x128 .f32 := TSC (MAX (ROT X))

/-- The tensor scale: 1 for a zero maximum, else the maximum over 2688. -/
theorem tsc_apply (M : FVec Ideal S_ .f32) (j : S8x128.Idx) :
    TSC M j = if M ix0 = 0 then 1 else Ideal.div (M ix0) (Ideal.ofBits .f32 0x45280000#32) := by
  rw [TSC, id]
  pointwise []

/-- The maximum as one fold over all entries. -/
theorem max_apply (V : FVec Ideal S6144x512x32 .f32) :
    MAX V ix0 = Finset.univ.fold max (Ideal.ofBits .f32 0xFF800000#32)
      fun x : Fin 6144 × Fin 512 × Fin 32 => FloatOps.absf (F := Ideal) (φ := .f32) (V (ix3 x.1 x.2.1 x.2.2)) := by
  pointwise []

/-- A rotated entry: the signed sum over the 32 lanes of its group. -/
theorem rot_apply (X : FVec Ideal S6144x16384 .bf16) (d : Fin 6144) (g : Fin 512) (s : Fin 32) :
    ROT X (ix3 d g s) = ∑ i : Fin 32, X (ix2 d ⟨g.val * 32 + i.val, by omega⟩) * hv i.val s.val := by
  have e : ROT X (ix3 d g s) = ∑ i : Fin 32, X (ix2 d ⟨g.val * 32 + i.val, by omega⟩)
      * FloatOps.sitofp (F := Ideal) .f32 (IntOp.subi (1#32) (IntOp.muli (2#32) (IntOp.andi (IntOp.ctpop
        (IntOp.andi (BitVec.ofNat 32 i.val) (BitVec.ofNat 32 s.val))) 1#32))) := by
    pointwise [ROT]
  rw [e]
  exact Finset.sum_congr rfl fun i _ => by rw [sign_val]

/-- The greatest absolute value is at most `b` when every rotated entry is within `b`. -/
theorem max_le (X : FVec Ideal S6144x16384 .bf16) (b : EReal) :
    MAX (ROT X) ix0 ≤ b ↔ ∀ (d : Fin 6144) (g : Fin 512) (s : Fin 32),
      FloatOps.absf (F := Ideal) (φ := .f32) (∑ i : Fin 32, X (ix2 d ⟨g.val * 32 + i.val, by omega⟩) * hv i.val s.val) ≤ b := by
  rw [max_apply, fold_le]
  simp only [rot_apply, Prod.forall]

end Cert.AmaxWRefIdeal.Hand
-- ==== Proof.AmaxWValue.lean ====
module

public import proofs.«01_k».proof.Proof.AmaxWStep
public import proofs.«01_k».proof.Proof.AmaxWRef

@[expose] public section

set_option maxRecDepth 16384

/-! The row-group tensor scale of the weights: the array the call leaves is the reference's term of its argument.
The two maxima are equal because they have the same upper bounds. -/

noncomputable section

namespace Cert.AmaxWIdeal.Hand

open Cert.AmaxWIdeal Cert.AmaxWIdeal.Gen Cert.Had Idealize.ShloMosaic Idealize.ShloMosaic.TcCoe Idealize.SL.Sem
open Idealize.ShloMosaic.Pipeline (Dat)

/-- The reference's composed term. -/
abbrev REF (X : FVec Ideal S6144x16384 .bf16) : FVec Ideal S8x128 .f32 := Cert.AmaxWRefIdeal.Hand.REF X

variable (m : (ℓ : Loc nD τ sig) → Buf (Elt Ideal) ℓ)

/-- The argument. -/
abbrev XX (c : Dev nD) : FVec Ideal S6144x16384 .bf16 := m ((c : Thread nD τ).loc main_arg0)

/-- A rotated entry of the argument, by its row, its group of 32 lanes and its place in the group. -/
def rot (X : FVec Ideal S6144x16384 .bf16) (d : Fin 6144) (g : Fin 512) (s : Fin 32) : EReal :=
  ∑ i : Fin 32, X (ix2 d ⟨g.val * 32 + i.val, by omega⟩) * hv i.val s.val

/-- One entry of the kernel's product at a tile is one rotated entry. -/
theorem sum_eq (c : Dev nD) (t : Fin cfg0.N) (l : Fin 8) (ρ : Fin 512) (k : Fin 256)
    (hd : t.val / 8 * 512 + ρ.val < 6144) (hg : t.val % 8 * 64 + l.val * 8 + lane k.val / 32 < 512) (hs : lane k.val % 32 < 32) :
    ∑ i : Fin 256, tile (Xb m c t) l (ix2 ρ i) * Hb m c t (ix2 i k)
      = rot (XX m c) ⟨t.val / 8 * 512 + ρ.val, hd⟩ ⟨t.val % 8 * 64 + l.val * 8 + lane k.val / 32, hg⟩ ⟨lane k.val % 32, hs⟩ := by
  have e : ∀ i : Fin 256, tile (Xb m c t) l (ix2 ρ i) * Hb m c t (ix2 i k)
      = tile (Xb m c t) l (ix2 ρ i) * Ideal.ofBits .bf16 (wordC i.val k.val) := fun i => by rw [Hb_apply]
  rw [Finset.sum_congr rfl fun i _ => e i, sum_wordC k.val k.isLt (fun i => tile (Xb m c t) l (ix2 ρ i)), rot]
  refine Finset.sum_congr rfl fun i _ => congrArg (· * hv i.val _) ?_
  rw [tile, Xb_apply]
  refine congrArg (XX m c) (congrArg₂ ix2 (Fin.ext rfl) (Fin.ext ?_))
  show t.val % 8 * 2048 + (l.val * 256 + (lane k.val / 32 * 32 + i.val)) = (t.val % 8 * 64 + l.val * 8 + lane k.val / 32) * 32 + i.val
  omega

/-- The running maxima after point `n`, by their upper bounds. -/
theorem scr_le (c : Dev nD) (j : S8x256.Idx) (b : EReal) : ∀ (n : ℕ) (hn : n < cfg0.N),
    (show FVec Ideal S8x256 .f32 from (outsAt0 m c n hn).2) j ≤ b ↔ 0 ≤ b ∧ ∀ t : Fin cfg0.N, t.val ≤ n → ∀ l : Fin 8,
      Within (Hb m c t) (tile (Xb m c t) l) j b := by
  intro n
  induction n with
  | zero =>
    intro hn
    show (show FVec Ideal S8x256 .f32 from (outsAt0 m c (⟨0, hn⟩ : Fin cfg0.N).val hn).2) j ≤ b ↔ _
    rw [outs_A m c ⟨0, hn⟩ rfl, all_le, pay3_apply]
    refine and_congr_right fun _ => ⟨fun h t ht => ?_, fun h => h ⟨0, hn⟩ (Nat.le_refl 0)⟩
    obtain rfl : t = ⟨0, hn⟩ := Fin.ext (Nat.le_zero.mp ht)
    exact h
  | succ n ih =>
    intro hn
    have h48 := (idx ⟨n + 1, hn⟩).2.2.2
    show (show FVec Ideal S8x256 .f32 from (outsAt0 m c (⟨n + 1, hn⟩ : Fin cfg0.N).val hn).2) j ≤ b ↔ _
    rw [outs_BC m c ⟨n + 1, hn⟩ (by simp only at h48 ⊢; omega), all_le]
    have ih' := ih (Nat.lt_of_succ_lt hn)
    refine (and_congr_left fun _ => ih').trans ?_
    rw [and_assoc]
    refine and_congr_right fun _ => ⟨fun h t ht => ?_, fun h => ⟨fun t ht => h t (Nat.le_succ_of_le ht), h ⟨n + 1, hn⟩ (Nat.le_refl _)⟩⟩
    rcases Nat.lt_or_ge n t.val with h1 | h1
    · obtain rfl : t = ⟨n + 1, hn⟩ := Fin.ext (Nat.le_antisymm ht h1)
      exact h.2
    · exact h.1 t h1

/-- The greatest of the running maxima, as one fold. -/
def top (acc : FVec Ideal S8x256 .f32) : EReal :=
  Finset.fold max (Ideal.ofBits .f32 0xFF800000#32) (fun x : Fin 8 × Fin 256 => acc (ix2 x.1 x.2)) Finset.univ

/-- The greatest running maximum after the last point is within `b` when every rotated entry is. -/
theorem top_le (c : Dev nD) (h95 : 95 < cfg0.N) (b : EReal) : top (show FVec Ideal S8x256 .f32 from (outsAt0 m c 95 h95).2) ≤ b
    ↔ ∀ (d : Fin 6144) (g : Fin 512) (s : Fin 32), FloatOps.absf (F := Ideal) (φ := .f32) (rot (XX m c) d g s) ≤ b := by
  have hN : cfg0.N = 96 := N_0
  rw [top, fold_le]
  constructor
  · intro h d g s
    obtain ⟨k, hk⟩ := lane_surj ⟨g.val % 8 * 32 + s.val, by omega⟩
    have hk' : lane k.val = g.val % 8 * 32 + s.val := hk
    have hw : FloatOps.absf (F := Ideal) (φ := .f32) (∑ i : Fin 256, tile (Xb m c ⟨d.val / 512 * 8 + g.val / 64, by omega⟩) ⟨g.val % 64 / 8, by omega⟩ (ix2 ⟨d.val % 512 / 8 * 8 + d.val % 8, by omega⟩ i)
      * Hb m c ⟨d.val / 512 * 8 + g.val / 64, by omega⟩ (ix2 i k)) ≤ b :=
      ((scr_le m c (ix2 ⟨d.val % 8, by omega⟩ k) b 95 h95).mp (h (⟨d.val % 8, by omega⟩, k))).2
        ⟨d.val / 512 * 8 + g.val / 64, by omega⟩ (by simp only; omega) ⟨g.val % 64 / 8, by omega⟩ ⟨d.val % 512 / 8, by omega⟩
    rw [sum_eq m c _ _ _ k (by simp only; omega) (by simp only; omega) (by omega)] at hw
    refine le_of_eq_of_le (congrArg (FloatOps.absf (F := Ideal) (φ := .f32)) ?_) hw
    congr 1
    · exact Fin.ext (by simp only; omega)
    · exact Fin.ext (by simp only; omega)
    · exact Fin.ext (by simp only; omega)
  · intro h x
    refine (scr_le m c (ix2 x.1 x.2) b 95 h95).mpr ⟨(abs_nonneg _).trans (h 0 0 0), fun t _ l q => ?_⟩
    have ht := (idx t).2.2.2
    have hx := x.1.isLt
    have hx2 := x.2.isLt
    have hρ : q.val * 8 + x.1.val < 512 := by omega
    have hk := lane_lt _ hx2
    have e := sum_eq m c t l ⟨q.val * 8 + x.1.val, hρ⟩ x.2 (by simp only; omega) (by omega) (by omega)
    exact le_of_eq_of_le (congrArg (FloatOps.absf (F := Ideal) (φ := .f32)) e) (h _ _ _)

/-- The blocks of the output window cover its array. -/
theorem covers : (cfg0.win 2).Covers := by
  refine Pipeline.Window.covers_of_indexMap_surj (w := cfg0.win 2) rfl (by decide) ?_
  decide +kernel

/-- The result array after the run is the reference's term of the argument. -/
theorem final (c : Dev nD) : (dats m 0 c).arrAt 2 (cfgs 0).N = REF (m ((c : Thread nD τ).loc main_arg0)) := by
  refine (dats m 0 c).arrAt_eq_of_covers 2 _ covers fun t hf y => ?_
  blk_simp
  have h1 := (flush0_2 t).mp hf
  have ht := (idx t).2.2.2
  have h95 : 95 < cfg0.N := lt_of_lt_of_eq (by decide) N_0.symm
  obtain rfl : t = ⟨95, h95⟩ := Fin.ext (by simp only; omega)
  have e : top (show FVec Ideal S8x256 .f32 from (outsAt0 m c 95 h95).2) = Cert.AmaxWRefIdeal.Hand.MAX (Cert.AmaxWRefIdeal.Hand.ROT (XX m c)) ix0 :=
    eq_of_forall_ge_iff fun b => (top_le m c h95 b).trans (Cert.AmaxWRefIdeal.Hand.max_le (XX m c) b).symm
  rw [after0_2, outs_last m c _ h1, pay2_apply]
  refine Eq.trans ?_ (Cert.AmaxWRefIdeal.Hand.tsc_apply _ _).symm
  rw [← e]
  rfl

end Cert.AmaxWIdeal.Hand
-- ==== Proof.AmaxWClaims.lean ====
module

public import proofs.«01_k».proof.Defs
public import proofs.«01_k».proof.Proof.AmaxWValue
public import Idealize.ShloMosaic.Lib.Tactic
public import Idealize.ShloMosaic.Lib.Quiescent

@[expose] public section

set_option maxRecDepth 16384

/-! The claims about the call `AmaxW`. -/

noncomputable section

namespace Cert.Proof.AmaxWClaims

open Idealize.ShloMosaic Idealize.ShloMosaic.TcCoe Idealize.SL.Sem

/-- The idealized kernel program runs to an end and leaves its arguments and all counters as they were. -/
theorem frame_pi : Cert.quiescent_AmaxWIdeal := fun m ρ _ => Cert.AmaxWIdeal.Gen.frame m ρ

/-- The same of the reference. -/
theorem frame_ri : Cert.quiescent_AmaxWRefIdeal := fun m ρ _ =>
  (θ_run Cert.AmaxWRefIdeal.defs _ _).mono (fun r h => ⟨fun c => (h c).2,
      Idealize.ShloMosaic.sem_eq_zero_of_no_sems (by decide) r.2⟩)
    (Cert.AmaxWRefIdeal.Value.run (F := Ideal) m ρ)

/-- Over the extended reals the kernel and the reference end with equal results. -/
theorem algebraic : Cert.algebraic_AmaxWIdeal_AmaxWRefIdeal := by
  intro m ρ m' ρ' _ hagree
  refine ⟨fun c => Cert.AmaxWIdeal.Hand.REF (m ((c : Thread Cert.AmaxWIdeal.nD Cert.AmaxWIdeal.τ).loc Cert.AmaxWIdeal.main_arg0)), ?_, ?_⟩
  · refine (θ_run Cert.AmaxWIdeal.defs _ _).mono (fun _ h c => ?_) (Cert.AmaxWIdeal.Value.run_blocks (F := Ideal) m ρ)
    exact ⟨(h c).1.trans (Cert.AmaxWIdeal.Hand.final m c), (h c).2⟩
  · refine (θ_run Cert.AmaxWRefIdeal.defs _ _).mono (fun _ h c => ?_) (Cert.AmaxWRefIdeal.Value.run (F := Ideal) m' ρ')
    refine ⟨(h c).1.trans ?_, (h c).2⟩
    rw [hagree c]

end Cert.Proof.AmaxWClaims

end
-- ==== Proof.lean ====
/- The certificate: every claim of the statement, assembled from the modules that prove the claims call by call. -/
module

public import proofs.«01_k».proof.Defs
public import proofs.«01_k».proof.Proof.Gen.MmDx
public import proofs.«01_k».proof.Proof.Gen.MmDxIdeal
public import proofs.«01_k».proof.Proof.Gen.MmDxRefIdeal
public import proofs.«01_k».proof.Proof.Gen.MmDxIdeal.Value
public import proofs.«01_k».proof.Proof.Gen.MmDxRefIdeal.Run
public import proofs.«01_k».proof.Proof.MmDxClaims
public import proofs.«01_k».proof.Proof.Gen.MmDw
public import proofs.«01_k».proof.Proof.Gen.MmDwIdeal
public import proofs.«01_k».proof.Proof.Gen.MmDwRefIdeal
public import proofs.«01_k».proof.Proof.Gen.MmDwIdeal.Value
public import proofs.«01_k».proof.Proof.Gen.MmDwRefIdeal.Run
public import proofs.«01_k».proof.Proof.MmDwClaims
public import proofs.«01_k».proof.Proof.Gen.AmaxX
public import proofs.«01_k».proof.Proof.Gen.AmaxXIdeal
public import proofs.«01_k».proof.Proof.Gen.AmaxXRefIdeal
public import proofs.«01_k».proof.Proof.Gen.AmaxXIdeal.Value
public import proofs.«01_k».proof.Proof.Gen.AmaxXRefIdeal.Run
public import proofs.«01_k».proof.Proof.AmaxXClaims
public import proofs.«01_k».proof.Proof.Gen.AmaxDy
public import proofs.«01_k».proof.Proof.Gen.AmaxDyIdeal
public import proofs.«01_k».proof.Proof.Gen.AmaxDyRefIdeal
public import proofs.«01_k».proof.Proof.Gen.AmaxDyIdeal.Value
public import proofs.«01_k».proof.Proof.Gen.AmaxDyRefIdeal.Run
public import proofs.«01_k».proof.Proof.AmaxDyClaims
public import proofs.«01_k».proof.Proof.Gen.AmaxWIdeal
public import proofs.«01_k».proof.Proof.Gen.AmaxWRefIdeal
public import proofs.«01_k».proof.Proof.Gen.AmaxWIdeal.Value
public import proofs.«01_k».proof.Proof.Gen.AmaxWRefIdeal.Run
public import proofs.«01_k».proof.Proof.AmaxWClaims
public import Idealize.ShloMosaic.Adequacy
public import Idealize.ShloMosaic.Init

@[expose] public section

noncomputable section

namespace Cert.Proof

open Idealize.ShloMosaic Idealize.SL.Sem

/-- Every claim of the statement holds. -/
theorem claim : Cert.Claim := ⟨Cert.MmDx.Gen.facts, Cert.MmDxIdeal.Gen.facts, Cert.MmDxRefIdeal.Gen.facts, Cert.MmDw.Gen.facts, Cert.MmDwIdeal.Gen.facts, Cert.MmDwRefIdeal.Gen.facts, Cert.AmaxX.Gen.facts, Cert.AmaxXIdeal.Gen.facts, Cert.AmaxXRefIdeal.Gen.facts, Cert.AmaxDy.Gen.facts, Cert.AmaxDyIdeal.Gen.facts, Cert.AmaxDyRefIdeal.Gen.facts, Cert.AmaxWIdeal.Gen.facts, Cert.AmaxWRefIdeal.Gen.facts,
  MmDxClaims.frame_p, MmDxClaims.frame_pi, MmDxClaims.frame_ri,
  MmDwClaims.frame_p, MmDwClaims.frame_pi, MmDwClaims.frame_ri,
  AmaxXClaims.frame_p, AmaxXClaims.frame_pi, AmaxXClaims.frame_ri,
  AmaxDyClaims.frame_p, AmaxDyClaims.frame_pi, AmaxDyClaims.frame_ri,
  AmaxWClaims.frame_pi, AmaxWClaims.frame_ri,
  MmDxClaims.preserves, MmDxClaims.algebraic,
  MmDwClaims.preserves, MmDwClaims.algebraic,
  AmaxXClaims.preserves, AmaxXClaims.algebraic,
  AmaxDyClaims.preserves, AmaxDyClaims.algebraic,
  AmaxWClaims.algebraic⟩

end Cert.Proof

end
